-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v5_1)) (v4 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v5_1) = v3 c
          ∧ r.2.mem ((c.tc : Thread Cert.KernelIdeal.nD Cert.KernelIdeal.τ).loc Cert.KernelIdeal.main_v5_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x1536x15744 : Shape := ⟨3, ![2, 1536, 15744]⟩
abbrev S15744x5120 : Shape := ⟨2, ![15744, 5120]⟩
abbrev S5120 : Shape := ⟨1, ![5120]⟩
abbrev S2x1536x5120 : Shape := ⟨3, ![2, 1536, 5120]⟩
abbrev S_ : Shape := ⟨0, ![]⟩

class Facts : Prop where
  bcast_S_S2x1536x15744 : S_.BroadcastsInDim S2x1536x15744 (![] : Fin 0 → Fin S2x1536x15744.rank)
  bcast_S_S5120 : S_.BroadcastsInDim S5120 (![] : Fin 0 → Fin S5120.rank)

variable [Facts]

def fn {F : FTy → Type} [FloatOps F] (main_arg0 : FVec F S2x1536x15744 .bf16) (main_arg1 : FVec F S15744x5120 .fp8e4m3) (main_arg2 : FVec F S5120 .f32) (main_arg3 : FVec F S2x1536x5120 .bf16) (main_arg4 : FVec F S5120 .bf16) : IVec S2x1536x15744 1 × IVec S5120 1 :=
  let main_v0 : FVec F S2x1536x15744 .bf16 := Host.absf main_arg0
  let main_cst : FVec F S_ .bf16 := constant S_ .bf16 0x7F7F#16
  let main_v1 : FVec F S2x1536x15744 .bf16 := broadcastInDim S2x1536x15744 ![] bcast_S_S2x1536x15744 main_cst
  let main_v2 : IVec S2x1536x15744 1 := cmpf .ole main_v0 main_v1
  let main_v3 : FVec F S5120 .bf16 := Host.absf main_arg4
  let main_cst_0 : FVec F S_ .bf16 := constant S_ .bf16 0x7F7F#16
  let main_v4 : FVec F S5120 .bf16 := broadcastInDim S5120 ![] bcast_S_S5120 main_cst_0
  let main_v5 : IVec S5120 1 := cmpf .ole main_v3 main_v4
  (main_v2, main_v5)
-- ==== Kernel.lean ====
abbrev S2x1536x15744 : Shape := ⟨3, ![2, 1536, 15744]⟩
abbrev S15744x5120 : Shape := ⟨2, ![15744, 5120]⟩
abbrev S5120 : Shape := ⟨1, ![5120]⟩
abbrev S2x1536x5120 : Shape := ⟨3, ![2, 1536, 5120]⟩
abbrev S3072x15744 : Shape := ⟨2, ![3072, 15744]⟩
abbrev S3072x1 : Shape := ⟨2, ![3072, 1]⟩
abbrev S64x15744 : Shape := ⟨2, ![64, 15744]⟩
abbrev S64x1 : Shape := ⟨2, ![64, 1]⟩
abbrev S64 : Shape := ⟨1, ![64]⟩
abbrev S1x5120 : Shape := ⟨2, ![1, 5120]⟩
abbrev S3072x5120 : Shape := ⟨2, ![3072, 5120]⟩
abbrev S512x15744 : Shape := ⟨2, ![512, 15744]⟩
abbrev S15744x512 : Shape := ⟨2, ![15744, 512]⟩
abbrev S512x1 : Shape := ⟨2, ![512, 1]⟩
abbrev S1x512 : Shape := ⟨2, ![1, 512]⟩
abbrev S512x512 : Shape := ⟨2, ![512, 512]⟩
abbrev S512x5120 : Shape := ⟨2, ![512, 5120]⟩
abbrev S10x512x512 : Shape := ⟨3, ![10, 512, 512]⟩
abbrev S1x512x512 : Shape := ⟨3, ![1, 512, 512]⟩
abbrev S512 : Shape := ⟨1, ![512]⟩

abbrev nBuf : Space → Nat
  | .hbm => 14
  | .vmem => 25
  | .smem => 0
  | _ => 0

abbrev bufTy : (tb : Table) → Fin (tcTables nBuf tb) → BufTy
  | .hbm, ⟨0, _⟩ => ⟨S2x1536x15744, .bf16⟩
  | .hbm, ⟨1, _⟩ => ⟨S15744x5120, .fp8e4m3⟩
  | .hbm, ⟨2, _⟩ => ⟨S5120, .f32⟩
  | .hbm, ⟨3, _⟩ => ⟨S2x1536x5120, .bf16⟩
  | .hbm, ⟨4, _⟩ => ⟨S5120, .bf16⟩
  | .hbm, ⟨5, _⟩ => ⟨S3072x15744, .bf16⟩
  | .hbm, ⟨6, _⟩ => ⟨S3072x15744, .fp8e4m3⟩
  | .hbm, ⟨7, _⟩ => ⟨S3072x1, .f32⟩
  | .hbm, ⟨8, _⟩ => ⟨S1x5120, .f32⟩
  | .hbm, ⟨9, _⟩ => ⟨S3072x5120, .bf16⟩
  | .hbm, ⟨10, _⟩ => ⟨S1x5120, .bf16⟩
  | .hbm, ⟨11, _⟩ => ⟨S3072x5120, .bf16⟩
  | .hbm, ⟨12, _⟩ => ⟨S3072x5120, .fp8e4m3⟩
  | .hbm, ⟨13, _⟩ => ⟨S3072x1, .f32⟩
  | .local _ .vmem, ⟨0, _⟩ => ⟨S64x15744, .bf16⟩
  | .local _ .vmem, ⟨1, _⟩ => ⟨S64x15744, .bf16⟩
  | .local _ .vmem, ⟨2, _⟩ => ⟨S64x15744, .fp8e4m3⟩
  | .local _ .vmem, ⟨3, _⟩ => ⟨S64x15744, .fp8e4m3⟩
  | .local _ .vmem, ⟨4, _⟩ => ⟨S64x1, .f32⟩
  | .local _ .vmem, ⟨5, _⟩ => ⟨S64x1, .f32⟩
  | .local _ .vmem, ⟨6, _⟩ => ⟨S512x15744, .fp8e4m3⟩
  | .local _ .vmem, ⟨7, _⟩ => ⟨S512x15744, .fp8e4m3⟩
  | .local _ .vmem, ⟨8, _⟩ => ⟨S15744x512, .fp8e4m3⟩
  | .local _ .vmem, ⟨9, _⟩ => ⟨S15744x512, .fp8e4m3⟩
  | .local _ .vmem, ⟨10, _⟩ => ⟨S512x1, .f32⟩
  | .local _ .vmem, ⟨11, _⟩ => ⟨S512x1, .f32⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S512x512, .bf16⟩
  | .local _ .vmem, ⟨16, _⟩ => ⟨S1x5120, .bf16⟩
  | .local _ .vmem, ⟨17, _⟩ => ⟨S512x512, .bf16⟩
  | .local _ .vmem, ⟨18, _⟩ => ⟨S512x512, .bf16⟩
  | .local _ .vmem, ⟨19, _⟩ => ⟨S512x5120, .fp8e4m3⟩
  | .local _ .vmem, ⟨20, _⟩ => ⟨S512x5120, .fp8e4m3⟩
  | .local _ .vmem, ⟨21, _⟩ => ⟨S512x1, .f32⟩
  | .local _ .vmem, ⟨22, _⟩ => ⟨S512x1, .f32⟩
  | .local _ .vmem, ⟨23, _⟩ => ⟨S10x512x512, .bf16⟩
  | .local _ .vmem, ⟨24, _⟩ => ⟨S512x1, .f32⟩
  | _, _ => ⟨S2x1536x15744, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_scratch0 : Ref sig .tc := ⟨.vmem, 23, rfl⟩
abbrev cc1_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x15744 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x15744 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![6, 10], ![false, false]⟩

def k1_off1 (i : grid1.Coords) : Fin 3 → Nat :=
  let arg1 : BitVec 32 := BitVec.ofNat 32 (i 1).val
  let v18 : Index := Scalar.indexCast arg1
  let c0_11 : Index := 0#32
  let c0_12 : Index := 0#32
  ![v18.toNat, 0, 0]
def k1_cond3 (i : grid1.Coords) : BitVec 1 :=
  let arg1 : BitVec 32 := BitVec.ofNat 32 (i 1).val
  let c9_i32 : BitVec 32 := 9#32
  let v32 : BitVec 1 := Scalar.cmpi .eq arg1 c9_i32
  let v33 : BitVec 32 := Scalar.extui v32
  let c0_i32_17 : BitVec 32 := 0#32
  let v34 : BitVec 1 := Scalar.cmpi .ne v33 c0_i32_17
  v34

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x15744 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S15744x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S1x5120 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x5120 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S512x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== ReferenceIdeal.lean ====
abbrev S2x1536x15744 : Shape := ⟨3, ![2, 1536, 15744]⟩
abbrev S15744x5120 : Shape := ⟨2, ![15744, 5120]⟩
abbrev S5120 : Shape := ⟨1, ![5120]⟩
abbrev S2x1536x5120 : Shape := ⟨3, ![2, 1536, 5120]⟩
abbrev S3072x15744 : Shape := ⟨2, ![3072, 15744]⟩
abbrev S1x5120 : Shape := ⟨2, ![1, 5120]⟩
abbrev S3072x5120 : Shape := ⟨2, ![3072, 5120]⟩
abbrev S3072x1 : Shape := ⟨2, ![3072, 1]⟩
abbrev S3072 : Shape := ⟨1, ![3072]⟩

abbrev nBuf : Space → Nat
  | .hbm => 14
  | .vmem => 10
  | .smem => 0
  | _ => 0

abbrev bufTy : (tb : Table) → Fin (tcTables nBuf tb) → BufTy
  | .hbm, ⟨0, _⟩ => ⟨S2x1536x15744, .bf16⟩
  | .hbm, ⟨1, _⟩ => ⟨S15744x5120, .fp8e4m3⟩
  | .hbm, ⟨2, _⟩ => ⟨S5120, .f32⟩
  | .hbm, ⟨3, _⟩ => ⟨S2x1536x5120, .bf16⟩
  | .hbm, ⟨4, _⟩ => ⟨S5120, .bf16⟩
  | .hbm, ⟨5, _⟩ => ⟨S3072x15744, .bf16⟩
  | .hbm, ⟨6, _⟩ => ⟨S1x5120, .f32⟩
  | .hbm, ⟨7, _⟩ => ⟨S3072x5120, .bf16⟩
  | .hbm, ⟨8, _⟩ => ⟨S1x5120, .bf16⟩
  | .hbm, ⟨9, _⟩ => ⟨S3072x5120, .bf16⟩
  | .hbm, ⟨10, _⟩ => ⟨S3072x15744, .fp8e4m3⟩
  | .hbm, ⟨11, _⟩ => ⟨S3072x1, .f32⟩
  | .hbm, ⟨12, _⟩ => ⟨S3072x5120, .fp8e4m3⟩
  | .hbm, ⟨13, _⟩ => ⟨S3072x1, .f32⟩
  | .local _ .vmem, ⟨0, _⟩ => ⟨S3072x15744, .bf16⟩
  | .local _ .vmem, ⟨1, _⟩ => ⟨S15744x5120, .fp8e4m3⟩
  | .local _ .vmem, ⟨2, _⟩ => ⟨S1x5120, .f32⟩
  | .local _ .vmem, ⟨3, _⟩ => ⟨S3072x5120, .bf16⟩
  | .local _ .vmem, ⟨4, _⟩ => ⟨S1x5120, .bf16⟩
  | .local _ .vmem, ⟨5, _⟩ => ⟨S3072x5120, .bf16⟩
  | .local _ .vmem, ⟨6, _⟩ => ⟨S3072x15744, .fp8e4m3⟩
  | .local _ .vmem, ⟨7, _⟩ => ⟨S3072x1, .f32⟩
  | .local _ .vmem, ⟨8, _⟩ => ⟨S3072x5120, .fp8e4m3⟩
  | .local _ .vmem, ⟨9, _⟩ => ⟨S3072x1, .f32⟩
  | _, _ => ⟨S2x1536x15744, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3072x15744 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15744x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x15744 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3072x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Quant.lean ====
/- The first kernel call, `cc0_quant`, which turns every token of `x` into fp8 codes and one power-of-two scale:
   what its body leaves in the two output buffers, as a function of the input block, and the body obligation
   of its pipeline. Each of its 48 points handles 64 whole tokens and carries nothing to the next point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S64x15744 := Rect.unit (s := S64x15744) ![0, 0] S64x15744.size inb_S64x15744_S64x15744_0_0
abbrev r0_1 : Rect S64x1 := Rect.unit (s := S64x1) ![0, 0] S64x1.size inb_S64x1_S64x1_0_0

/-! ## What the body leaves in each output window's buffer -/

/-! ### Values of the body that both stores read -/

def k0_pay8 (x0 : Vec F S64x15744 .bf16) : FVec F S64x1 .f32 :=
  k0_pay3 (View.ld x0 r0_0) -- `v7`
def k0_pay9 (x0 : Vec F S64x15744 .bf16) : IVec S64x1 32 :=
  k0_pay4 (View.ld x0 r0_0) -- `v43`

/-- Window 1's staging buffer after the body, from the input windows' blocks: its 1 store as pieces, LAST
    FIRST (Lib/Pipeline/FrameBody.lean `View.canon`; the payloads are the skeleton's and the values stated above). -/
def out0_1 (x0 : Vec F S64x15744 .bf16) : Vec F S64x15744 .fp8e4m3 :=
  View.canon [⟨r0_0, k0_pay1 (k0_pay7 (k0_pay2 (View.ld x0 r0_0)) (k0_pay8 x0) (k0_pay9 x0))⟩]

/-- Its stores tile the buffer (checked by evaluation), so they cover it. -/
theorem cover0_1 (p0 : Vec F S64x15744 .fp8e4m3) (y : S64x15744.Idx) :
    ∃ pc ∈ ([⟨r0_0, p0⟩] : List (View.Piece (Elt F) S64x15744 .fp8e4m3)), y ∈ pc.1.set :=
  View.cover_of_tiled [⟨r0_0, p0⟩] S64x15744.size (by rfl) y

/-- Window 2's staging buffer after the body, from the input windows' blocks: its 1 store as pieces, LAST
    FIRST (Lib/Pipeline/FrameBody.lean `View.canon`; the payloads are the skeleton's and the values stated above). -/
def out0_2 (x0 : Vec F S64x15744 .bf16) : Vec F S64x1 .f32 :=
  View.canon [⟨r0_1, k0_pay6 (k0_pay8 x0) (k0_pay9 x0)⟩]

/-- Its stores tile the buffer (checked by evaluation), so they cover it. -/
theorem cover0_2 (p0 : Vec F S64x1 .f32) (y : S64x1.Idx) :
    ∃ pc ∈ ([⟨r0_1, p0⟩] : List (View.Piece (Elt F) S64x1 .f32)), y ∈ pc.1.set :=
  View.cover_of_tiled [⟨r0_1, p0⟩] S64x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S64x15744 .bf16) (harg1 : arg1.IsWhole) (arg2 : Memref sig .tc .vmem S64x15744 .fp8e4m3) (harg2 : arg2.IsWhole) (arg3 : Memref sig .tc .vmem S64x1 .f32) (harg3 : arg3.IsWhole)
    (x0 : Vec F S64x15744 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant i arg1 harg1 arg2 harg2 arg3 harg3) K := by
  simp only [cc0_quant_eq_skeleton]; unfold cc0_quant_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Run
-- ==== Proof.Proj.lean ====
/- The body of the second kernel call, `cc1_proj`, which multiplies the codes by the weight, adds the residual, and at
   the last column tile of a row normalises the whole row and quantises it. What each part of it leaves, as functions of
   the buffers it reads: the residual tile, the sum of squares, and at the last tile the row's codes and scales. -/
module

public import proofs.«01_k».proof.Proof.Quant

@[expose] public section

-- membership in a rectangle of production extents (`View.cover_of_tiled`): the elaborator's structural look
-- recurses once per coordinate of the long axes
set_option maxRecDepth 16384

noncomputable section

namespace Cert.Kernel.Run

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Small facts about whole memrefs -/

theorem zero2 : (![0, 0] : Fin 2 → ℕ) = fun _ => 0 := by funext a; fin_cases a <;> rfl

/-- A load from a whole memref whose buffer was filled from `X` reads `X` at the load's indices. -/
theorem readAt_unread {sp : Space} {S : Shape} {e : EltTy} (M : Memref sig .tc sp S e) (h : M.IsWhole) (X : S.Idx → Elt F e) (r : Rect S) :
    M.view.readAt (Elt F) r.toLoadRect (h.unread X) = View.ld X r := by
  funext x
  exact congrFun (h.read_unread X) (r.idx x)

/-- One store through a view: its payload on its rectangle, the earlier contents elsewhere. -/
theorem read_writes_one {sp : Space} {S : Shape} {e : EltTy} (v : View sig .tc sp S e) (f : v.ty.Contents (Elt F)) (r : Rect S)
    (w : r.shape.Idx → Elt F e) :
    v.read (Elt F) (v.writes (Elt F) f [⟨r, w⟩]) = r.overlay (v.read (Elt F) f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]
    rfl

/-! ## The rectangles of the last point: slab `k` of gamma, tile `k` of the row, slab `k` of the codes -/

abbrev rg0 : Rect S1x5120 := Rect.unit (s := S1x5120) ![0, 0] S1x512.size inb_S1x5120_S1x512_0_0
abbrev rg1 : Rect S1x5120 := Rect.unit (s := S1x5120) ![0, 512] S1x512.size inb_S1x5120_S1x512_0_512
abbrev rg2 : Rect S1x5120 := Rect.unit (s := S1x5120) ![0, 1024] S1x512.size inb_S1x5120_S1x512_0_1024
abbrev rg3 : Rect S1x5120 := Rect.unit (s := S1x5120) ![0, 1536] S1x512.size inb_S1x5120_S1x512_0_1536
abbrev rg4 : Rect S1x5120 := Rect.unit (s := S1x5120) ![0, 2048] S1x512.size inb_S1x5120_S1x512_0_2048
abbrev rg5 : Rect S1x5120 := Rect.unit (s := S1x5120) ![0, 2560] S1x512.size inb_S1x5120_S1x512_0_2560
abbrev rg6 : Rect S1x5120 := Rect.unit (s := S1x5120) ![0, 3072] S1x512.size inb_S1x5120_S1x512_0_3072
abbrev rg7 : Rect S1x5120 := Rect.unit (s := S1x5120) ![0, 3584] S1x512.size inb_S1x5120_S1x512_0_3584
abbrev rg8 : Rect S1x5120 := Rect.unit (s := S1x5120) ![0, 4096] S1x512.size inb_S1x5120_S1x512_0_4096
abbrev rg9 : Rect S1x5120 := Rect.unit (s := S1x5120) ![0, 4608] S1x512.size inb_S1x5120_S1x512_0_4608
abbrev re0 : Rect S10x512x512 := Rect.unit (s := S10x512x512) ![0, 0, 0] S1x512x512.size inb_S10x512x512_S1x512x512_0_0_0
abbrev re1 : Rect S10x512x512 := Rect.unit (s := S10x512x512) ![1, 0, 0] S1x512x512.size inb_S10x512x512_S1x512x512_1_0_0
abbrev re2 : Rect S10x512x512 := Rect.unit (s := S10x512x512) ![2, 0, 0] S1x512x512.size inb_S10x512x512_S1x512x512_2_0_0
abbrev re3 : Rect S10x512x512 := Rect.unit (s := S10x512x512) ![3, 0, 0] S1x512x512.size inb_S10x512x512_S1x512x512_3_0_0
abbrev re4 : Rect S10x512x512 := Rect.unit (s := S10x512x512) ![4, 0, 0] S1x512x512.size inb_S10x512x512_S1x512x512_4_0_0
abbrev re5 : Rect S10x512x512 := Rect.unit (s := S10x512x512) ![5, 0, 0] S1x512x512.size inb_S10x512x512_S1x512x512_5_0_0
abbrev re6 : Rect S10x512x512 := Rect.unit (s := S10x512x512) ![6, 0, 0] S1x512x512.size inb_S10x512x512_S1x512x512_6_0_0
abbrev re7 : Rect S10x512x512 := Rect.unit (s := S10x512x512) ![7, 0, 0] S1x512x512.size inb_S10x512x512_S1x512x512_7_0_0
abbrev re8 : Rect S10x512x512 := Rect.unit (s := S10x512x512) ![8, 0, 0] S1x512x512.size inb_S10x512x512_S1x512x512_8_0_0
abbrev re9 : Rect S10x512x512 := Rect.unit (s := S10x512x512) ![9, 0, 0] S1x512x512.size inb_S10x512x512_S1x512x512_9_0_0
abbrev ry0 : Rect S512x5120 := Rect.unit (s := S512x5120) ![0, 0] S512x512.size inb_S512x5120_S512x512_0_0
abbrev ry1 : Rect S512x5120 := Rect.unit (s := S512x5120) ![0, 512] S512x512.size inb_S512x5120_S512x512_0_512
abbrev ry2 : Rect S512x5120 := Rect.unit (s := S512x5120) ![0, 1024] S512x512.size inb_S512x5120_S512x512_0_1024
abbrev ry3 : Rect S512x5120 := Rect.unit (s := S512x5120) ![0, 1536] S512x512.size inb_S512x5120_S512x512_0_1536
abbrev ry4 : Rect S512x5120 := Rect.unit (s := S512x5120) ![0, 2048] S512x512.size inb_S512x5120_S512x512_0_2048
abbrev ry5 : Rect S512x5120 := Rect.unit (s := S512x5120) ![0, 2560] S512x512.size inb_S512x5120_S512x512_0_2560
abbrev ry6 : Rect S512x5120 := Rect.unit (s := S512x5120) ![0, 3072] S512x512.size inb_S512x5120_S512x512_0_3072
abbrev ry7 : Rect S512x5120 := Rect.unit (s := S512x5120) ![0, 3584] S512x512.size inb_S512x5120_S512x512_0_3584
abbrev ry8 : Rect S512x5120 := Rect.unit (s := S512x5120) ![0, 4096] S512x512.size inb_S512x5120_S512x512_0_4096
abbrev ry9 : Rect S512x5120 := Rect.unit (s := S512x5120) ![0, 4608] S512x512.size inb_S512x5120_S512x512_0_4608
abbrev q0 : Rect S512x15744 := Rect.unit (s := S512x15744) ![0, 0] S512x15744.size inb_S512x15744_S512x15744_0_0
abbrev q1 : Rect S15744x512 := Rect.unit (s := S15744x512) ![0, 0] S15744x512.size inb_S15744x512_S15744x512_0_0
abbrev q3 : Rect S1x512 := Rect.unit (s := S1x512) ![0, 0] S1x512.size inb_S1x512_S1x512_0_0
abbrev q4 : Rect S512x512 := Rect.unit (s := S512x512) ![0, 0] S512x512.size inb_S512x512_S512x512_0_0
abbrev rcol : Rect S512x1 := Rect.unit (s := S512x1) ![0, 0] S512x1.size inb_S512x1_S512x1_0_0

/-- A store of the whole residual tile covers it, -/
theorem cover4 (p0 : Vec F S512x512 .bf16) (y : S512x512.Idx) : ∃ pc ∈ ([⟨q4, p0⟩] : List (View.Piece (Elt F) S512x512 .bf16)), y ∈ pc.1.set :=
  View.cover_of_tiled [⟨q4, p0⟩] S512x512.size (by rfl) y

/-- and a store of a whole column likewise. -/
theorem coverCol (p0 : Vec F S512x1 .f32) (y : S512x1.Idx) : ∃ pc ∈ ([⟨rcol, p0⟩] : List (View.Piece (Elt F) S512x1 .f32)), y ∈ pc.1.set :=
  View.cover_of_tiled [⟨rcol, p0⟩] S512x1.size (by rfl) y

/-! ## What a point leaves -/

section Tile
variable (x0 : Vec F S512x15744 .fp8e4m3) (x1 : Vec F S15744x512 .fp8e4m3) (x2 : Vec F S512x1 .f32) (x3 : Vec F S1x512 .f32) (x4 : Vec F S512x512 .bf16)

/-- The residual tile a point computes from its blocks. -/
def rTile : Vec F S512x512 .bf16 := View.canon [⟨q4, k1_pay29 (View.ld x0 q0) (View.ld x1 q1) (View.ld x2 rcol) (View.ld x3 q3) (View.ld x4 q4)⟩]

/-- The row scratch after a point: its tile at the point's slice, the other slices as they were. -/
def putTile (i : grid1.Coords) (d : Vec F S10x512x512 .bf16) : Vec F S10x512x512 .bf16 :=
  (Rect.unit (s := S10x512x512) (k1_off1 i) S1x512x512.size (k1_off1_inb i)).overlay d (k1_pay30 (View.ld x0 q0) (View.ld x1 q1) (View.ld x2 rcol) (View.ld x3 q3) (View.ld x4 q4))

/-- The sums of squares after the first tile of a row, -/
def ssFirst : Vec F S512x1 .f32 := View.canon [⟨rcol, k1_pay32 (View.ld x0 q0) (View.ld x1 q1) (View.ld x2 rcol) (View.ld x3 q3) (View.ld x4 q4)⟩]

/-- and after a later one, from those before it. -/
def ssNext (s : Vec F S512x1 .f32) : Vec F S512x1 .f32 := View.canon [⟨rcol, k1_pay33 (View.ld x0 q0) (View.ld x1 q1) (View.ld x2 rcol) (View.ld x3 q3) (View.ld x4 q4) (View.ld s rcol)⟩]

end Tile

section Finish
/-- The reciprocal root mean square of each row. -/
def rsOf (s : Vec F S512x1 .f32) : FVec F S512x1 .f32 := k1_pay1 (View.ld s rcol)
/-- The largest magnitude of the normalised row over tiles 0 and 1, -/
def amax1 (g : Vec F S1x5120 .bf16) (e : Vec F S10x512x512 .bf16) (s : Vec F S512x1 .f32) : FVec F S512x1 .f32 := k1_pay2 (View.ld s rcol) (View.ld g rg0) (View.ld e re0) (View.ld g rg1) (View.ld e re1)
/-- over tiles 0 to 4, -/
def amax4 (g : Vec F S1x5120 .bf16) (e : Vec F S10x512x512 .bf16) (s : Vec F S512x1 .f32) : FVec F S512x1 .f32 := k1_pay4 (rsOf s) (amax1 g e s) (k1_pay3 (View.ld g rg2)) (View.ld e re2) (View.ld g rg3) (View.ld e re3) (View.ld g rg4) (View.ld e re4)
/-- over tiles 0 to 7, -/
def amax7 (g : Vec F S1x5120 .bf16) (e : Vec F S10x512x512 .bf16) (s : Vec F S512x1 .f32) : FVec F S512x1 .f32 := k1_pay6 (rsOf s) (amax4 g e s) (k1_pay5 (View.ld g rg5)) (View.ld e re5) (View.ld g rg6) (View.ld e re6) (View.ld g rg7) (View.ld e re7)
/-- and over the row, times the constant 1/448. -/
def ratioOf (g : Vec F S1x5120 .bf16) (e : Vec F S10x512x512 .bf16) (s : Vec F S512x1 .f32) : FVec F S512x1 .f32 := k1_pay8 (rsOf s) (amax7 g e s) (k1_pay7 (View.ld g rg8)) (View.ld e re8) (View.ld g rg9) (View.ld e re9)
/-- The two values the search for its exponent field starts from. -/
def exp0 (g : Vec F S1x5120 .bf16) (e : Vec F S10x512x512 .bf16) (s : Vec F S512x1 .f32) : IVec S512x1 32 := k1_pay9 (rsOf s) (amax7 g e s) (k1_pay7 (View.ld g rg8)) (View.ld e re8) (View.ld g rg9) (View.ld e re9)
def exp1 (g : Vec F S1x5120 .bf16) (e : Vec F S10x512x512 .bf16) (s : Vec F S512x1 .f32) : IVec S512x1 32 := k1_pay10 (rsOf s) (amax7 g e s) (k1_pay7 (View.ld g rg8)) (View.ld e re8) (View.ld g rg9) (View.ld e re9)
/-- The exponent field the scales are made from. -/
def expOf (g : Vec F S1x5120 .bf16) (e : Vec F S10x512x512 .bf16) (s : Vec F S512x1 .f32) : IVec S512x1 32 := k1_pay12 (ratioOf g e s) (exp0 g e s) (exp1 g e s) k1_pay11
/-- The inverse scales. -/
def invOf (g : Vec F S1x5120 .bf16) (e : Vec F S10x512x512 .bf16) (s : Vec F S512x1 .f32) : FVec F S512x1 .f32 := k1_pay16 (expOf g e s)
/-- The scales. -/
def ysOut (g : Vec F S1x5120 .bf16) (e : Vec F S10x512x512 .bf16) (s : Vec F S512x1 .f32) : Vec F S512x1 .f32 :=
  View.canon [⟨rcol, k1_pay15 (k1_pay13 (ratioOf g e s) (exp0 g e s) (exp1 g e s) k1_pay11) k1_pay14⟩]
/-- What the last point of a row stores into columns 0 to 511 of the codes. -/
def yPay0 (g : Vec F S1x5120 .bf16) (e : Vec F S10x512x512 .bf16) (s : Vec F S512x1 .f32) : Vec F S512x512 .fp8e4m3 :=
  k1_pay17 (rsOf s) (expOf g e s) (View.ld g rg0) (View.ld e re0)
/-- What the last point of a row stores into columns 512 to 1023 of the codes. -/
def yPay1 (g : Vec F S1x5120 .bf16) (e : Vec F S10x512x512 .bf16) (s : Vec F S512x1 .f32) : Vec F S512x512 .fp8e4m3 :=
  k1_pay19 (k1_pay18 (rsOf s) (expOf g e s) (View.ld g rg1) (View.ld e re1)) (Scalar.ofBits .f32 0xC3E00000#32) (Scalar.ofBits .f32 0x43E00000#32)
/-- What the last point of a row stores into columns 1024 to 1535 of the codes. -/
def yPay2 (g : Vec F S1x5120 .bf16) (e : Vec F S10x512x512 .bf16) (s : Vec F S512x1 .f32) : Vec F S512x512 .fp8e4m3 :=
  k1_pay20 (rsOf s) (invOf g e s) (View.ld g rg2) (View.ld e re2)
/-- What the last point of a row stores into columns 1536 to 2047 of the codes. -/
def yPay3 (g : Vec F S1x5120 .bf16) (e : Vec F S10x512x512 .bf16) (s : Vec F S512x1 .f32) : Vec F S512x512 .fp8e4m3 :=
  k1_pay22 (k1_pay21 (rsOf s) (invOf g e s) (View.ld g rg3) (View.ld e re3))
/-- What the last point of a row stores into columns 2048 to 2559 of the codes. -/
def yPay4 (g : Vec F S1x5120 .bf16) (e : Vec F S10x512x512 .bf16) (s : Vec F S512x1 .f32) : Vec F S512x512 .fp8e4m3 :=
  k1_pay23 (rsOf s) (invOf g e s) (View.ld g rg4) (View.ld e re4)
/-- What the last point of a row stores into columns 2560 to 3071 of the codes. -/
def yPay5 (g : Vec F S1x5120 .bf16) (e : Vec F S10x512x512 .bf16) (s : Vec F S512x1 .f32) : Vec F S512x512 .fp8e4m3 :=
  k1_pay24 (rsOf s) (invOf g e s) (View.ld g rg5) (View.ld e re5)
/-- What the last point of a row stores into columns 3072 to 3583 of the codes. -/
def yPay6 (g : Vec F S1x5120 .bf16) (e : Vec F S10x512x512 .bf16) (s : Vec F S512x1 .f32) : Vec F S512x512 .fp8e4m3 :=
  k1_pay25 (rsOf s) (invOf g e s) (View.ld g rg6) (View.ld e re6)
/-- What the last point of a row stores into columns 3584 to 4095 of the codes. -/
def yPay7 (g : Vec F S1x5120 .bf16) (e : Vec F S10x512x512 .bf16) (s : Vec F S512x1 .f32) : Vec F S512x512 .fp8e4m3 :=
  k1_pay26 (rsOf s) (invOf g e s) (View.ld g rg7) (View.ld e re7)
/-- What the last point of a row stores into columns 4096 to 4607 of the codes. -/
def yPay8 (g : Vec F S1x5120 .bf16) (e : Vec F S10x512x512 .bf16) (s : Vec F S512x1 .f32) : Vec F S512x512 .fp8e4m3 :=
  k1_pay27 (rsOf s) (invOf g e s) (View.ld g rg8) (View.ld e re8)
/-- What the last point of a row stores into columns 4608 to 5119 of the codes. -/
def yPay9 (g : Vec F S1x5120 .bf16) (e : Vec F S10x512x512 .bf16) (s : Vec F S512x1 .f32) : Vec F S512x512 .fp8e4m3 :=
  k1_pay28 (rsOf s) (invOf g e s) (View.ld g rg9) (View.ld e re9)

/-- The row's codes: the ten slabs. -/
def yOut (g : Vec F S1x5120 .bf16) (e : Vec F S10x512x512 .bf16) (s : Vec F S512x1 .f32) : Vec F S512x5120 .fp8e4m3 :=
  View.canon [⟨ry9, yPay9 g e s⟩, ⟨ry8, yPay8 g e s⟩, ⟨ry7, yPay7 g e s⟩, ⟨ry6, yPay6 g e s⟩, ⟨ry5, yPay5 g e s⟩, ⟨ry4, yPay4 g e s⟩, ⟨ry3, yPay3 g e s⟩, ⟨ry2, yPay2 g e s⟩, ⟨ry1, yPay1 g e s⟩, ⟨ry0, yPay0 g e s⟩]

/-- The ten slabs cover the row. -/
theorem ycover (p0 p1 p2 p3 p4 p5 p6 p7 p8 p9 : Vec F S512x512 .fp8e4m3) (y : S512x5120.Idx) :
    ∃ pc ∈ ([⟨ry9, p9⟩, ⟨ry8, p8⟩, ⟨ry7, p7⟩, ⟨ry6, p6⟩, ⟨ry5, p5⟩, ⟨ry4, p4⟩, ⟨ry3, p3⟩, ⟨ry2, p2⟩, ⟨ry1, p1⟩, ⟨ry0, p0⟩] : List (View.Piece (Elt F) S512x5120 .fp8e4m3)), y ∈ pc.1.set :=
  View.cover_of_tiled [⟨ry9, p9⟩, ⟨ry8, p8⟩, ⟨ry7, p7⟩, ⟨ry6, p6⟩, ⟨ry5, p5⟩, ⟨ry4, p4⟩, ⟨ry3, p3⟩, ⟨ry2, p2⟩, ⟨ry1, p1⟩, ⟨ry0, p0⟩] S512x512.size (by rfl) y
end Finish

/-! ## The triples -/

section Triples
variable (c : Dev nD) (E : Set ℕ) (i : grid1.Coords)
  (arg2 : Memref sig .tc .vmem S512x15744 .fp8e4m3) (harg2 : arg2.IsWhole)
  (arg3 : Memref sig .tc .vmem S15744x512 .fp8e4m3) (harg3 : arg3.IsWhole)
  (arg4 : Memref sig .tc .vmem S512x1 .f32) (harg4 : arg4.IsWhole)
  (arg5 : Memref sig .tc .vmem S1x512 .f32) (harg5 : arg5.IsWhole)
  (arg6 : Memref sig .tc .vmem S512x512 .bf16) (harg6 : arg6.IsWhole)
  (arg7 : Memref sig .tc .vmem S1x5120 .bf16) (harg7 : arg7.IsWhole)
  (arg8 : Memref sig .tc .vmem S512x512 .bf16) (harg8 : arg8.IsWhole)
  (arg9 : Memref sig .tc .vmem S512x5120 .fp8e4m3) (harg9 : arg9.IsWhole)
  (arg10 : Memref sig .tc .vmem S512x1 .f32) (harg10 : arg10.IsWhole)
  (arg11 : Memref sig .tc .vmem S10x512x512 .bf16) (harg11 : arg11.IsWhole)
  (arg12 : Memref sig .tc .vmem S512x1 .f32) (harg12 : arg12.IsWhole)
  (x0 : Vec F S512x15744 .fp8e4m3) (x1 : Vec F S15744x512 .fp8e4m3) (x2 : Vec F S512x1 .f32) (x3 : Vec F S1x512 .f32) (x4 : Vec F S512x512 .bf16) (x5 : Vec F S1x5120 .bf16)

set_option maxHeartbeats 2000000 in
/-- The product part of the body at the first tile of a row: the sums of squares start from this tile's. -/
theorem sound_part_first (hc0 : (Scalar.cmpi .ne (Scalar.extui (Scalar.cmpi .eq (BitVec.ofNat 32 (i 1).val) 0#32)) 0#32) = 1#1) (hc1 : ¬(Scalar.cmpi .ne (Scalar.extui (Scalar.cmpi .sgt (BitVec.ofNat 32 (i 1).val) 0#32)) 0#32) = 1#1) (d : Vec F S10x512x512 .bf16) (K : sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg11 fullShare d ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (rTile x0 x1 x2 x3 x4) ∗ owns (c : Thread nD τ) arg11 fullShare (putTile x0 x1 x2 x3 x4 i d) ∗ owns (c : Thread nD τ) arg12 fullShare (ssFirst x0 x1 x2 x3 x4)) -∗ K))
      ⊢ wp frame (wpE (defs₀ (F := F)) Variants.none c none) E (k1_part11_skel i arg2 harg2 arg3 harg3 arg4 harg4 arg5 harg5 arg6 harg6 arg7 harg7 arg8 harg8 arg9 harg9 arg10 harg10 arg11 harg11 arg12 harg12) (fun _ => K) := by
  unfold k1_part11_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f11, %hf11, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg11.eq_unread hf11
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H6]
  · iexists _; isplitr
    swap; · iexact H6
    ipureintro
    refine (View.read_writes_eq_canon _ _ _ (cover4 _)).trans ?_
    simp only [readAt_unread]
    rfl
  isplitl [H11]
  · iexists _; isplitr
    swap; · iexact H11
    ipureintro
    refine (read_writes_one _ _ _ _).trans ?_
    simp only [harg11.read_unread, readAt_unread]
    rfl
  iexists _; isplitr
  swap; · iexact H12
  ipureintro
  refine (View.read_writes_eq_canon _ _ _ (coverCol _)).trans ?_
  simp only [readAt_unread]
  rfl

set_option maxHeartbeats 2000000 in
/-- The product part of the body at a later tile of a row: this tile's squares are added to those before. -/
theorem sound_part_next (hc0 : ¬(Scalar.cmpi .ne (Scalar.extui (Scalar.cmpi .eq (BitVec.ofNat 32 (i 1).val) 0#32)) 0#32) = 1#1) (hc1 : (Scalar.cmpi .ne (Scalar.extui (Scalar.cmpi .sgt (BitVec.ofNat 32 (i 1).val) 0#32)) 0#32) = 1#1) (d : Vec F S10x512x512 .bf16) (s : Vec F S512x1 .f32) (K : sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg11 fullShare d ∗ owns (c : Thread nD τ) arg12 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (rTile x0 x1 x2 x3 x4) ∗ owns (c : Thread nD τ) arg11 fullShare (putTile x0 x1 x2 x3 x4 i d) ∗ owns (c : Thread nD τ) arg12 fullShare (ssNext x0 x1 x2 x3 x4 s)) -∗ K))
      ⊢ wp frame (wpE (defs₀ (F := F)) Variants.none c none) E (k1_part11_skel i arg2 harg2 arg3 harg3 arg4 harg4 arg5 harg5 arg6 harg6 arg7 harg7 arg8 harg8 arg9 harg9 arg10 harg10 arg11 harg11 arg12 harg12) (fun _ => K) := by
  unfold k1_part11_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg11.eq_unread hf11; obtain rfl := harg12.eq_unread hf12
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H6]
  · iexists _; isplitr
    swap; · iexact H6
    ipureintro
    refine (View.read_writes_eq_canon _ _ _ (cover4 _)).trans ?_
    simp only [readAt_unread]
    rfl
  isplitl [H11]
  · iexists _; isplitr
    swap; · iexact H11
    ipureintro
    refine (read_writes_one _ _ _ _).trans ?_
    simp only [harg11.read_unread, readAt_unread]
    rfl
  iexists _; isplitr
  swap; · iexact H12
  ipureintro
  refine (View.read_writes_eq_canon _ _ _ (coverCol _)).trans ?_
  simp only [readAt_unread]
  rfl

end Triples

end Cert.Kernel.Run
-- ==== Proof.ProjBody.lean ====
/- The whole body of `cc1_proj` at its three kinds of point: the first tile of a row, a tile in the middle, and the
   last one, which also normalises and quantises the row. -/
module

public import proofs.«01_k».proof.Proof.Proj

@[expose] public section

-- membership in a rectangle of production extents (`View.cover_of_tiled`): the elaborator's structural look
-- recurses once per coordinate of the long axes
set_option maxRecDepth 16384

noncomputable section

namespace Cert.Kernel.Run

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Triples
variable (c : Dev nD) (E : Set ℕ) (i : grid1.Coords)
  (arg2 : Memref sig .tc .vmem S512x15744 .fp8e4m3) (harg2 : arg2.IsWhole)
  (arg3 : Memref sig .tc .vmem S15744x512 .fp8e4m3) (harg3 : arg3.IsWhole)
  (arg4 : Memref sig .tc .vmem S512x1 .f32) (harg4 : arg4.IsWhole)
  (arg5 : Memref sig .tc .vmem S1x512 .f32) (harg5 : arg5.IsWhole)
  (arg6 : Memref sig .tc .vmem S512x512 .bf16) (harg6 : arg6.IsWhole)
  (arg7 : Memref sig .tc .vmem S1x5120 .bf16) (harg7 : arg7.IsWhole)
  (arg8 : Memref sig .tc .vmem S512x512 .bf16) (harg8 : arg8.IsWhole)
  (arg9 : Memref sig .tc .vmem S512x5120 .fp8e4m3) (harg9 : arg9.IsWhole)
  (arg10 : Memref sig .tc .vmem S512x1 .f32) (harg10 : arg10.IsWhole)
  (arg11 : Memref sig .tc .vmem S10x512x512 .bf16) (harg11 : arg11.IsWhole)
  (arg12 : Memref sig .tc .vmem S512x1 .f32) (harg12 : arg12.IsWhole)
  (x0 : Vec F S512x15744 .fp8e4m3) (x1 : Vec F S15744x512 .fp8e4m3) (x2 : Vec F S512x1 .f32) (x3 : Vec F S1x512 .f32) (x4 : Vec F S512x512 .bf16) (x5 : Vec F S1x5120 .bf16)

/-- The first tile of a row. -/
theorem sound_first (hc0 : (Scalar.cmpi .ne (Scalar.extui (Scalar.cmpi .eq (BitVec.ofNat 32 (i 1).val) 0#32)) 0#32) = 1#1) (hc1 : ¬(Scalar.cmpi .ne (Scalar.extui (Scalar.cmpi .sgt (BitVec.ofNat 32 (i 1).val) 0#32)) 0#32) = 1#1) (hc2 : ¬k1_cond3 i = 1#1) (d : Vec F S10x512x512 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg11 fullShare d ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (rTile x0 x1 x2 x3 x4) ∗ owns (c : Thread nD τ) arg11 fullShare (putTile x0 x1 x2 x3 x4 i d) ∗ owns (c : Thread nD τ) arg12 fullShare (ssFirst x0 x1 x2 x3 x4)) -∗ K ⟨⟩))
      ⊢ wp frame (wpE (defs₀ (F := F)) Variants.none c none) E (cc1_proj i arg2 harg2 arg3 harg3 arg4 harg4 arg5 harg5 arg6 harg6 arg7 harg7 arg8 harg8 arg9 harg9 arg10 harg10 arg11 harg11 arg12 harg12) K := by
  simp only [cc1_proj_eq_skeleton]; unfold cc1_proj_skel
  simp only [k1_part11_eq_skeleton]
  rw [wp_bind]
  iintro ⟨H0, H1, H2, H3, H4, H6, H11, H12, Hk⟩
  iapply (sound_part_first c E i arg2 harg2 arg3 harg3 arg4 harg4 arg5 harg5 arg6 harg6 arg7 harg7 arg8 harg8 arg9 harg9 arg10 harg10 arg11 harg11 arg12 harg12 x0 x1 x2 x3 x4 hc0 hc1 d _)
  isplitl [H0]; · iexact H0
  isplitl [H1]; · iexact H1
  isplitl [H2]; · iexact H2
  isplitl [H3]; · iexact H3
  isplitl [H4]; · iexact H4
  isplitl [H6]; · iexact H6
  isplitl [H11]; · iexact H11
  isplitl [H12]; · iexact H12
  iintro HH
  sl_exec (disch := sl_exact hc2)
  sl_step
  iapply Hk
  iexact HH

/-- A tile in the middle of a row. -/
theorem sound_mid (hc0 : ¬(Scalar.cmpi .ne (Scalar.extui (Scalar.cmpi .eq (BitVec.ofNat 32 (i 1).val) 0#32)) 0#32) = 1#1) (hc1 : (Scalar.cmpi .ne (Scalar.extui (Scalar.cmpi .sgt (BitVec.ofNat 32 (i 1).val) 0#32)) 0#32) = 1#1) (hc2 : ¬k1_cond3 i = 1#1) (d : Vec F S10x512x512 .bf16) (s : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg11 fullShare d ∗ owns (c : Thread nD τ) arg12 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (rTile x0 x1 x2 x3 x4) ∗ owns (c : Thread nD τ) arg11 fullShare (putTile x0 x1 x2 x3 x4 i d) ∗ owns (c : Thread nD τ) arg12 fullShare (ssNext x0 x1 x2 x3 x4 s)) -∗ K ⟨⟩))
      ⊢ wp frame (wpE (defs₀ (F := F)) Variants.none c none) E (cc1_proj i arg2 harg2 arg3 harg3 arg4 harg4 arg5 harg5 arg6 harg6 arg7 harg7 arg8 harg8 arg9 harg9 arg10 harg10 arg11 harg11 arg12 harg12) K := by
  simp only [cc1_proj_eq_skeleton]; unfold cc1_proj_skel
  simp only [k1_part11_eq_skeleton]
  rw [wp_bind]
  iintro ⟨H0, H1, H2, H3, H4, H6, H11, H12, Hk⟩
  iapply (sound_part_next c E i arg2 harg2 arg3 harg3 arg4 harg4 arg5 harg5 arg6 harg6 arg7 harg7 arg8 harg8 arg9 harg9 arg10 harg10 arg11 harg11 arg12 harg12 x0 x1 x2 x3 x4 hc0 hc1 d s _)
  isplitl [H0]; · iexact H0
  isplitl [H1]; · iexact H1
  isplitl [H2]; · iexact H2
  isplitl [H3]; · iexact H3
  isplitl [H4]; · iexact H4
  isplitl [H6]; · iexact H6
  isplitl [H11]; · iexact H11
  isplitl [H12]; · iexact H12
  iintro HH
  sl_exec (disch := sl_exact hc2)
  sl_step
  iapply Hk
  iexact HH

set_option maxHeartbeats 8000000 in
/-- The last tile of a row: the row's codes and scales are left in their two buffers. -/
theorem sound_last (hc0 : ¬(Scalar.cmpi .ne (Scalar.extui (Scalar.cmpi .eq (BitVec.ofNat 32 (i 1).val) 0#32)) 0#32) = 1#1) (hc1 : (Scalar.cmpi .ne (Scalar.extui (Scalar.cmpi .sgt (BitVec.ofNat 32 (i 1).val) 0#32)) 0#32) = 1#1) (hc2 : k1_cond3 i = 1#1) (d : Vec F S10x512x512 .bf16) (s : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare d ∗ owns (c : Thread nD τ) arg12 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (rTile x0 x1 x2 x3 x4)
            ∗ owns (c : Thread nD τ) arg9 fullShare (yOut x5 (putTile x0 x1 x2 x3 x4 i d) (ssNext x0 x1 x2 x3 x4 s)) ∗ owns (c : Thread nD τ) arg10 fullShare (ysOut x5 (putTile x0 x1 x2 x3 x4 i d) (ssNext x0 x1 x2 x3 x4 s))
            ∗ owns (c : Thread nD τ) arg11 fullShare (putTile x0 x1 x2 x3 x4 i d) ∗ owns (c : Thread nD τ) arg12 fullShare (ssNext x0 x1 x2 x3 x4 s)) -∗ K ⟨⟩))
      ⊢ wp frame (wpE (defs₀ (F := F)) Variants.none c none) E (cc1_proj i arg2 harg2 arg3 harg3 arg4 harg4 arg5 harg5 arg6 harg6 arg7 harg7 arg8 harg8 arg9 harg9 arg10 harg10 arg11 harg11 arg12 harg12) K := by
  simp only [cc1_proj_eq_skeleton]; unfold cc1_proj_skel
  simp only [k1_part11_eq_skeleton, k1_part10_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  rw [wp_bind]
  iintro ⟨H0, H1, H2, H3, H4, H5, H6, H7, H8, H11, H12, Hk⟩
  iapply (sound_part_next c E i arg2 harg2 arg3 harg3 arg4 harg4 arg5 harg5 arg6 harg6 arg7 harg7 arg8 harg8 arg9 harg9 arg10 harg10 arg11 harg11 arg12 harg12 x0 x1 x2 x3 x4 hc0 hc1 d s _)
  isplitl [H0]; · iexact H0
  isplitl [H1]; · iexact H1
  isplitl [H2]; · iexact H2
  isplitl [H3]; · iexact H3
  isplitl [H4]; · iexact H4
  isplitl [H6]; · iexact H6
  isplitl [H11]; · iexact H11
  isplitl [H12]; · iexact H12
  generalize (putTile x0 x1 x2 x3 x4 i d) = e
  generalize (ssNext x0 x1 x2 x3 x4 s) = s'
  unfold owns
  iintro ⟨H0, H1, H2, H3, H4, H6, ⟨%f11, %hf11, H11⟩, ⟨%f12, %hf12, H12⟩⟩
  icases H5 with ⟨%f5, %hf5, H5⟩
  icases H7 with ⟨%d7, %f7, -, H7⟩
  icases H8 with ⟨%d8, %f8, -, H8⟩
  subst hf11; subst hf12; subst hf5
  sl_exec (disch := sl_exact hc2)
  sl_step
  iapply Hk
  isplitl [H0]; · iexact H0
  isplitl [H1]; · iexact H1
  isplitl [H2]; · iexact H2
  isplitl [H3]; · iexact H3
  isplitl [H4]; · iexact H4
  isplitl [H5]
  · iexists _; isplitr; · ipureintro; rfl
    iexact H5
  isplitl [H6]; · iexact H6
  isplitl [H7]
  · iexists _; isplitr
    swap; · iexact H7
    ipureintro
    refine (View.read_writes_eq_canon _ _ _ (ycover _ _ _ _ _ _ _ _ _ _)).trans ?_
    rfl
  isplitl [H8]
  · iexists _; isplitr
    swap; · iexact H8
    ipureintro
    refine (View.read_writes_eq_canon _ _ _ (coverCol _)).trans ?_
    rfl
  isplitl [H11]
  · iexists _; isplitr; · ipureintro; rfl
    iexact H11
  iexists _; isplitr; · ipureintro; rfl
  iexact H12

end Triples

end Cert.Kernel.Run
-- ==== Proof.ProjData.lean ====
/- The pipeline of `cc1_proj`: what it carries from point to point, what its buffers hold after each point, and the
   body obligation at every point.

   The grid is 6 rows of blocks by 10 column tiles. Along a row the kernel keeps two scratch buffers: the ten residual
   tiles computed so far, and the sums of their squares. The tiles are filled one slice per point, so before the last
   point of a row the later slices hold whatever was there; the invariant therefore says only that the slices up to the
   current point hold their tiles. After the last point the ten slices are the whole row, whatever the scratch held before. -/
module

public import proofs.«01_k».proof.Proof.ProjBody

@[expose] public section

-- membership in a rectangle of production extents (`View.cover_of_tiled`): the elaborator's structural look
-- recurses once per coordinate of the long axes
set_option maxRecDepth 16384

noncomputable section

namespace Cert.Kernel.Run

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the body is called with -/

abbrev ms1_0 (t : Fin cfg1.N) : Memref sig .tc .vmem S512x15744 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S15744x512 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x5120 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x5120 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x1 .f32 := win1_8.stage (cfg1.slots t 8)
abbrev hs1_8 (t : Fin cfg1.N) : (ms1_8 t).IsWhole := hstage1_8 ((cfg1.slots t 8).cast nbuf1_8)
abbrev scM1_0 : Memref sig .tc .vmem S10x512x512 .bf16 := Memref.whole cc1_scratch0
abbrev scM1_1 : Memref sig .tc .vmem S512x1 .f32 := Memref.whole cc1_scratch1

/-- The invariant of a kernel that names nothing it carries, with the two scratch buffers as memrefs. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The grid -/

theorem N1 : cfg1.N = 60 := N_1

/-- The column tile of a point. -/
theorem coord1 (t : Fin cfg1.N) : (grid1.coords t 1).val = t.val % 10 := by
  have e : (grid1.coords t 1).val = t.val / 1 % 10 := Pipeline.Grid.coords_val t 1 (by decide) rfl
  rw [e, Nat.div_one]

/-- The row of a point. -/
theorem coord0 (t : Fin cfg1.N) : (grid1.coords t 0).val = t.val / 10 := by
  have ht : t.val < 60 := Nat.lt_of_lt_of_eq t.isLt N1
  have e : (grid1.coords t 0).val = t.val / 10 % 6 := Pipeline.Grid.coords_val t 0 (by decide) rfl
  rw [e, Nat.mod_eq_of_lt (by omega)]

theorem hfirst (t : Fin cfg1.N) : (Scalar.cmpi .ne (Scalar.extui (Scalar.cmpi .eq (BitVec.ofNat 32 ((grid1.coords t) 1).val) 0#32)) 0#32) = 1#1 ↔ t.val % 10 = 0 := by
  have ht : t.val < 60 := Nat.lt_of_lt_of_eq t.isLt N1
  rw [coord1]
  word_cmp

theorem hnext : ∀ t : Fin cfg1.N, (Scalar.cmpi .ne (Scalar.extui (Scalar.cmpi .sgt (BitVec.ofNat 32 ((grid1.coords t) 1).val) 0#32)) 0#32) = 1#1 ↔ 1 ≤ t.val % 10 :=
  (by decide +kernel : ∀ t : Fin grid1.N, (Scalar.cmpi .ne (Scalar.extui (Scalar.cmpi .sgt (BitVec.ofNat 32 ((grid1.coords t) 1).val) 0#32)) 0#32) = 1#1 ↔ 1 ≤ t.val % 10)

theorem hlast (t : Fin cfg1.N) : k1_cond3 (grid1.coords t) = 1#1 ↔ t.val % 10 = 9 := by
  have ht : t.val < 60 := Nat.lt_of_lt_of_eq t.isLt N1
  simp only [k1_cond3, coord1]
  word_cmp

theorem hidle7 (t : Fin cfg1.N) : cfg1.idle 7 (cfg1.grid.coords t) = true ↔ ¬ t.val % 10 = 9 := by
  rw [← hlast t, show cfg1.idle 7 (cfg1.grid.coords t) = (!(k1_cond3 (grid1.coords t) == 1#1)) from rfl]; simp

theorem hidle8 (t : Fin cfg1.N) : cfg1.idle 8 (cfg1.grid.coords t) = true ↔ ¬ t.val % 10 = 9 := by
  rw [← hlast t, show cfg1.idle 8 (cfg1.grid.coords t) = (!(k1_cond3 (grid1.coords t) == 1#1)) from rfl]; simp

/-! ## What is carried -/

/-- The slice of the row scratch a point fills. -/
abbrev slice (t : Fin cfg1.N) : Rect S10x512x512 :=
  Rect.unit (s := S10x512x512) (k1_off1 (grid1.coords t)) S1x512x512.size (k1_off1_inb (grid1.coords t))

/-- The tile point `t` stores into its slice. -/
def pAt (c : Dev nD) (t : Fin cfg1.N) : (slice t).shape.Idx → Elt F .bf16 :=
  k1_pay30 (View.ld (iblk1 V c 0 t) q0) (View.ld (iblk1 V c 1 t) q1) (View.ld (iblk1 V c 2 t) rcol) (View.ld (iblk1 V c 3 t) q3) (View.ld (iblk1 V c 4 t) q4)

/-- The sums of squares after position `n`. -/
def ssAt (c : Dev nD) : (n : ℕ) → n < cfg1.N → Vec F S512x1 .f32
  | 0, h => ssFirst (iblk1 V c 0 ⟨0, h⟩) (iblk1 V c 1 ⟨0, h⟩) (iblk1 V c 2 ⟨0, h⟩) (iblk1 V c 3 ⟨0, h⟩) (iblk1 V c 4 ⟨0, h⟩)
  | n + 1, h => if (n + 1) % 10 = 0 then ssFirst (iblk1 V c 0 ⟨n + 1, h⟩) (iblk1 V c 1 ⟨n + 1, h⟩) (iblk1 V c 2 ⟨n + 1, h⟩) (iblk1 V c 3 ⟨n + 1, h⟩) (iblk1 V c 4 ⟨n + 1, h⟩)
      else ssNext (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (ssAt c n (Nat.lt_of_succ_lt h))

theorem ssAt_first (c : Dev nD) (t : Fin cfg1.N) (h0 : t.val % 10 = 0) :
    ssAt V c t.val t.isLt = ssFirst (iblk1 V c 0 t) (iblk1 V c 1 t) (iblk1 V c 2 t) (iblk1 V c 3 t) (iblk1 V c 4 t) := by
  obtain ⟨n, hn⟩ := t
  cases n with
  | zero => rfl
  | succ n => exact if_pos h0

theorem ssAt_next (c : Dev nD) (t : Fin cfg1.N) (h0 : ¬ t.val % 10 = 0) :
    ssAt V c t.val t.isLt = ssNext (iblk1 V c 0 t) (iblk1 V c 1 t) (iblk1 V c 2 t) (iblk1 V c 3 t) (iblk1 V c 4 t) (ssAt V c (t.val - 1) (Nat.lt_of_le_of_lt (Nat.sub_le _ _) t.isLt)) := by
  obtain ⟨n, hn⟩ := t
  cases n with
  | zero => exact absurd (Nat.zero_mod _) h0
  | succ n => exact if_neg h0

/-- After position `n` the scratch holds every tile of its row up to there. -/
def Row (c : Dev nD) (n : ℕ) (d : Vec F S10x512x512 .bf16) : Prop :=
  ∀ t : Fin cfg1.N, t.val / 10 = n / 10 → t.val ≤ n → ∀ x : (slice t).shape.Idx, d ((slice t).emb x) = pAt V c t x

/-- Two slices of one row are apart. -/
theorem slice_apart {t t' : Fin cfg1.N} (hr : t'.val / 10 = t.val / 10) (hne : t' ≠ t) (x : (slice t').shape.Idx) :
    (slice t').emb x ∉ (slice t).set := by
  rw [Rect.mem_set_unit]
  intro hall
  have h := hall 0
  have hv : (((slice t').emb x) 0).val = (k1_off1 (grid1.coords t')) 0 + 1 * (x 0).val := rfl
  have hx : (x 0).val < 1 := (x 0).isLt
  have e : ∀ u : Fin cfg1.N, (k1_off1 (grid1.coords u)) 0 = u.val % 10 := fun u => by
    rw [k1_off1_eq, ← coord1 u]; rfl
  have hs : (S1x512x512.size 0) = 1 := rfl
  rw [hv, e, e] at h
  have : t'.val ≠ t.val := fun h => hne (Fin.ext h)
  rw [hs] at h
  omega

/-- The first point of a row makes its slice hold its tile, -/
theorem Row_first (c : Dev nD) (t : Fin cfg1.N) (h0 : t.val % 10 = 0) (d : Vec F S10x512x512 .bf16) :
    Row V c t.val (putTile (iblk1 V c 0 t) (iblk1 V c 1 t) (iblk1 V c 2 t) (iblk1 V c 3 t) (iblk1 V c 4 t) (grid1.coords t) d) := by
  intro t' hr hle x
  obtain rfl : t' = t := Fin.ext (by omega)
  exact Rect.overlay_emb _ _ _ x

/-- and a later one keeps the earlier slices. -/
theorem Row_next (c : Dev nD) (t : Fin cfg1.N) (h0 : ¬ t.val % 10 = 0) (d : Vec F S10x512x512 .bf16) (hd : Row V c (t.val - 1) d) :
    Row V c t.val (putTile (iblk1 V c 0 t) (iblk1 V c 1 t) (iblk1 V c 2 t) (iblk1 V c 3 t) (iblk1 V c 4 t) (grid1.coords t) d) := by
  intro t' hr hle x
  by_cases he : t' = t
  · subst he; exact Rect.overlay_emb _ _ _ x
  · have : t'.val ≠ t.val := fun h => he (Fin.ext h)
    exact (Rect.overlay_of_not_mem _ _ _ (slice_apart hr he x)).trans (hd t' (by omega) (by omega) x)

/-- The point of tile `k` in the row of `t`. -/
def rowPt (t : Fin cfg1.N) (k : Fin 10) : Fin cfg1.N :=
  ⟨t.val / 10 * 10 + k.val, Nat.lt_of_lt_of_eq (by have h := Nat.lt_of_lt_of_eq t.isLt N1; have := k.isLt; omega) N1.symm⟩

/-- The place inside its slice of a place of the row scratch. -/
def inSlice (y : S10x512x512.Idx) : S1x512x512.Idx := fun a => match a with
  | ⟨0, _⟩ => ⟨0, Nat.zero_lt_one⟩
  | ⟨1, _⟩ => y 1
  | ⟨2, _⟩ => y 2

/-- The whole row of tiles, as the last point of the row leaves the scratch. -/
def rowAt (c : Dev nD) (t : Fin cfg1.N) : Vec F S10x512x512 .bf16 := fun y => pAt V c (rowPt t (y 0)) (inSlice y)

theorem emb_inSlice (t : Fin cfg1.N) (y : S10x512x512.Idx) : (slice (rowPt t (y 0))).emb (inSlice y) = y := by
  funext a
  apply Fin.ext
  show (k1_off1 (grid1.coords (rowPt t (y 0)))) a + 1 * (inSlice y a).val = (y a).val
  rw [k1_off1_eq, coord1]
  have hy : (y 0).val < 10 := (y 0).isLt
  fin_cases a
  · show (t.val / 10 * 10 + (y 0).val) % 10 + 1 * 0 = (y 0).val
    omega
  · show 0 + 1 * (y 1).val = (y 1).val
    omega
  · show 0 + 1 * (y 2).val = (y 2).val
    omega

/-- After the last point of a row nothing of the earlier contents is left. -/
theorem Row_last (c : Dev nD) (t : Fin cfg1.N) (h9 : t.val % 10 = 9) (d : Vec F S10x512x512 .bf16) (hd : Row V c t.val d) :
    d = rowAt V c t := by
  funext y
  have hy : (y 0).val < 10 := (y 0).isLt
  have h := hd (rowPt t (y 0)) (by show (t.val / 10 * 10 + (y 0).val) / 10 = _; omega) (by show t.val / 10 * 10 + (y 0).val ≤ _; omega) (inSlice y)
  rw [emb_inSlice] at h
  exact h

/-- The invariant before position `n`. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, ⌜Row V c n d⌝ ∗ owns (c : Thread nD τ) scM1_0 fullShare d) ∗ owns (c : Thread nD τ) scM1_1 fullShare (ssAt V c n hn)) ∗ (∃ r, prngReg c r))

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, ⌜Row V c n d⌝ ∗ owns (c : Thread nD τ) scM1_0 fullShare d) ∗ owns (c : Thread nD τ) scM1_1 fullShare (ssAt V c n hn)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, ⌜Row V c (n - 1) d⌝ ∗ owns (c : Thread nD τ) scM1_0 fullShare d) ∗ owns (c : Thread nD τ) scM1_1 fullShare (ssAt V c (n - 1) (by omega))) ∗ (∃ r, prngReg c r)) := by
  cases n with
  | zero => exact absurd rfl hz
  | succ n => rfl

/-- At any position the names of what is carried can be forgotten. -/
theorem PhiS_forget (c : Dev nD) (n : ℕ) (h : n ≤ cfg1.N) : PhiS V c n h ⊢ Pipeline.ΦA spec1 c := by
  cases n with
  | zero => exact Idealize.SL.BI.Entails.refl _
  | succ n =>
    rw [PhiS_succ, PhiA1_eq]
    iintro ⟨⟨HR0, HR1, HR2, HR3, HR4, HR5, ⟨%d, -, HS0⟩, HS1⟩, Hg⟩
    isplitl [HR0 HR1 HR2 HR3 HR4 HR5 HS0 HS1]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]
      · iexists _; iexact HS0
      iexists _; iexact HS1
    iexact Hg

/-! ## The proof data -/

/-- After the body at point `t` each input's buffer is at its block, the residual's at its tile, and at the last point
    of a row the codes' and the scales' are at the row's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => rTile (iblk1 V c 0 t) (iblk1 V c 1 t) (iblk1 V c 2 t) (iblk1 V c 3 t) (iblk1 V c 4 t)
    | ⟨7, _⟩ => yOut (iblk1 V c 5 t) (rowAt V c t) (ssAt V c t.val t.isLt)
    | ⟨8, _⟩ => ysOut (iblk1 V c 5 t) (rowAt V c t) (ssAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

theorem after1_6 (c : Dev nD) (t : Fin cfg1.N) : (dat1 V c).after 6 t = rTile (iblk1 V c 0 t) (iblk1 V c 1 t) (iblk1 V c 2 t) (iblk1 V c 3 t) (iblk1 V c 4 t) := by dsimp only [dat1]
theorem after1_7 (c : Dev nD) (t : Fin cfg1.N) : (dat1 V c).after 7 t = yOut (iblk1 V c 5 t) (rowAt V c t) (ssAt V c t.val t.isLt) := by dsimp only [dat1]
theorem after1_8 (c : Dev nD) (t : Fin cfg1.N) : (dat1 V c).after 8 t = ysOut (iblk1 V c 5 t) (rowAt V c t) (ssAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4000000 in
/-- The body at any point, by which tile of its row it is. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl]
  rw [show (dat1 V c).Φ t.succ = PhiS V c (t.val + 1) t.isLt from rfl, PhiS_succ, PhiS_castSucc V c t]
  have l0 : (dat1 V c).leavesExact 0 t = owns (c : Thread nD τ) (ms1_0 t) fullShare ((dat1 V c).after 0 t) := by
    unfold Dat.leavesExact; rw [show cfg1.idle 0 (cfg1.grid.coords t) = false from rfl]
  have l1 : (dat1 V c).leavesExact 1 t = owns (c : Thread nD τ) (ms1_1 t) fullShare ((dat1 V c).after 1 t) := by
    unfold Dat.leavesExact; rw [show cfg1.idle 1 (cfg1.grid.coords t) = false from rfl]
  have l2 : (dat1 V c).leavesExact 2 t = owns (c : Thread nD τ) (ms1_2 t) fullShare ((dat1 V c).after 2 t) := by
    unfold Dat.leavesExact; rw [show cfg1.idle 2 (cfg1.grid.coords t) = false from rfl]
  have l3 : (dat1 V c).leavesExact 3 t = owns (c : Thread nD τ) (ms1_3 t) fullShare ((dat1 V c).after 3 t) := by
    unfold Dat.leavesExact; rw [show cfg1.idle 3 (cfg1.grid.coords t) = false from rfl]
  have l4 : (dat1 V c).leavesExact 4 t = owns (c : Thread nD τ) (ms1_4 t) fullShare ((dat1 V c).after 4 t) := by
    unfold Dat.leavesExact; rw [show cfg1.idle 4 (cfg1.grid.coords t) = false from rfl]
  have l5 : (dat1 V c).leavesExact 5 t = owns (c : Thread nD τ) (ms1_5 t) fullShare ((dat1 V c).after 5 t) := by
    unfold Dat.leavesExact; rw [show cfg1.idle 5 (cfg1.grid.coords t) = false from rfl]
  have l6 : (dat1 V c).leavesExact 6 t = owns (c : Thread nD τ) (ms1_6 t) fullShare ((dat1 V c).after 6 t) := by
    unfold Dat.leavesExact; rw [show cfg1.idle 6 (cfg1.grid.coords t) = false from rfl]
  rw [l0, l1, l2, l3, l4, l5, l6, after1_0, after1_1, after1_2, after1_3, after1_4, after1_5, after1_6]
  by_cases h9 : t.val % 10 = 9
  · have h0 : ¬ t.val % 10 = 0 := by omega
    have hz : t.val ≠ 0 := fun h => h0 (by rw [h])
    have l7 : (dat1 V c).leavesExact 7 t = owns (c : Thread nD τ) (ms1_7 t) fullShare ((dat1 V c).after 7 t) := by
      unfold Dat.leavesExact; rw [Bool.eq_false_iff.mpr (fun h => (hidle7 t).mp h h9)]
    have l8 : (dat1 V c).leavesExact 8 t = owns (c : Thread nD τ) (ms1_8 t) fullShare ((dat1 V c).after 8 t) := by
      unfold Dat.leavesExact; rw [Bool.eq_false_iff.mpr (fun h => (hidle8 t).mp h h9)]
    rw [l7, l8, after1_7, after1_8, PhiS_pos V c _ _ hz]
    simp only [before1_0, before1_1, before1_2, before1_3, before1_4, before1_5]
    iintro ⟨⟨⟨HR0, HR1, HR2, HR3, HR4, HR5, ⟨%d, %hd, HS0⟩, HS1⟩, Hg⟩, Ho, ⟨%d0, H0⟩, ⟨%d1, H1⟩, ⟨%d2, H2⟩, ⟨%d3, H3⟩, ⟨%d4, H4⟩, ⟨%d5, H5⟩, ⟨%d6, H6⟩, H7, H8⟩
    icases H7 with ⟨%d7, H7⟩
    icases H8 with ⟨%d8, H8⟩
    have hrow := Row_next V c t h0 d hd
    have hfin := Row_last V c t h9 _ hrow
    have hss := ssAt_next V c t h0
    rw [← hfin, hss]
    iapply (sound_last c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t)
      (fun h => h0 ((hfirst t).mp h)) ((hnext t).mpr (by omega)) ((hlast t).mpr h9) d (ssAt V c (t.val - 1) (by have := t.isLt; omega)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HR0 HR1 HR2 HR3 HR4 HR5 HS0 HS1 Hg]
    · isplitl [HR0 HR1 HR2 HR3 HR4 HR5 HS0 HS1]
      · isplitl [HR0]; · iexact HR0
        isplitl [HR1]; · iexact HR1
        isplitl [HR2]; · iexact HR2
        isplitl [HR3]; · iexact HR3
        isplitl [HR4]; · iexact HR4
        isplitl [HR5]; · iexact HR5
        isplitl [HS0]
        · iexists _; isplitr
          swap; · iexact HS0
          ipureintro; exact hrow
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have l7 : (dat1 V c).leavesExact 7 t = iprop(∃ d, owns (c : Thread nD τ) (ms1_7 t) fullShare ((dat1 V c).before 7 t d)) :=
      (dat1 V c).leavesExact_idle 7 t ((hidle7 t).mpr h9) (by rw [Bool.eq_false_iff]; exact fun h => h9 ((flush1_7 t).mp h))
    have l8 : (dat1 V c).leavesExact 8 t = iprop(∃ d, owns (c : Thread nD τ) (ms1_8 t) fullShare ((dat1 V c).before 8 t d)) :=
      (dat1 V c).leavesExact_idle 8 t ((hidle8 t).mpr h9) (by rw [Bool.eq_false_iff]; exact fun h => h9 ((flush1_8 t).mp h))
    rw [l7, l8]
    by_cases h0 : t.val % 10 = 0
    · have hforget := PhiS_forget V c t.val (Nat.le_of_lt t.isLt)
      rw [PhiA1_eq] at hforget
      simp only [before1_0, before1_1, before1_2, before1_3, before1_4, before1_5]
      iintro ⟨HP, Ho, ⟨%d0, H0⟩, ⟨%d1, H1⟩, ⟨%d2, H2⟩, ⟨%d3, H3⟩, ⟨%d4, H4⟩, ⟨%d5, H5⟩, ⟨%d6, H6⟩, H7, H8⟩
      ihave H := hforget $$ HP
      icases H with ⟨⟨HR0, HR1, HR2, HR3, HR4, HR5, ⟨%d, HS0⟩, HS1⟩, Hg⟩
      have hrow := Row_first V c t h0 d
      rw [ssAt_first V c t h0]
      iapply (sound_first c Set.univ (grid1.coords t) _ _ _ _ _ _ _ _ _ _ _ _ _ _ _ _ _ _ _ _ _ _ (iblk1 V c 0 t) (iblk1 V c 1 t) (iblk1 V c 2 t) (iblk1 V c 3 t) (iblk1 V c 4 t)
        ((hfirst t).mpr h0) (fun h => absurd ((hnext t).mp h) (by omega)) (fun h => h9 ((hlast t).mp h)) d _)
      isplitl [H0]; · iexact H0
      isplitl [H1]; · iexact H1
      isplitl [H2]; · iexact H2
      isplitl [H3]; · iexact H3
      isplitl [H4]; · iexact H4
      isplitl [H6]; · iexists _; iexact H6
      isplitl [HS0]; · iexact HS0
      isplitl [HS1]; · iexact HS1
      iintro ⟨H0, H1, H2, H3, H4, H6, HS0, HS1⟩
      isplitl [HR0 HR1 HR2 HR3 HR4 HR5 HS0 HS1 Hg]
      · isplitl [HR0 HR1 HR2 HR3 HR4 HR5 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · iexists _; isplitr
            swap; · iexact HS0
            ipureintro; exact hrow
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hz : t.val ≠ 0 := fun h => h0 (by rw [h])
      rw [PhiS_pos V c _ _ hz]
      simp only [before1_0, before1_1, before1_2, before1_3, before1_4, before1_5]
      iintro ⟨⟨⟨HR0, HR1, HR2, HR3, HR4, HR5, ⟨%d, %hd, HS0⟩, HS1⟩, Hg⟩, Ho, ⟨%d0, H0⟩, ⟨%d1, H1⟩, ⟨%d2, H2⟩, ⟨%d3, H3⟩, ⟨%d4, H4⟩, ⟨%d5, H5⟩, ⟨%d6, H6⟩, H7, H8⟩
      have hrow := Row_next V c t h0 d hd
      rw [ssAt_next V c t h0]
      iapply (sound_mid c Set.univ (grid1.coords t) _ _ _ _ _ _ _ _ _ _ _ _ _ _ _ _ _ _ _ _ _ _ (iblk1 V c 0 t) (iblk1 V c 1 t) (iblk1 V c 2 t) (iblk1 V c 3 t) (iblk1 V c 4 t)
        (fun h => h0 ((hfirst t).mp h)) ((hnext t).mpr (by omega)) (fun h => h9 ((hlast t).mp h)) d (ssAt V c (t.val - 1) (by have := t.isLt; omega)) _)
      isplitl [H0]; · iexact H0
      isplitl [H1]; · iexact H1
      isplitl [H2]; · iexact H2
      isplitl [H3]; · iexact H3
      isplitl [H4]; · iexact H4
      isplitl [H6]; · iexists _; iexact H6
      isplitl [HS0]; · iexact HS0
      isplitl [HS1]; · iexact HS1
      iintro ⟨H0, H1, H2, H3, H4, H6, HS0, HS1⟩
      isplitl [HR0 HR1 HR2 HR3 HR4 HR5 HS0 HS1 Hg]
      · isplitl [HR0 HR1 HR2 HR3 HR4 HR5 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · iexists _; isplitr
            swap; · iexact HS0
            ipureintro; exact hrow
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point, -/
theorem hin1 (c : Dev nD) : Pipeline.ΦA spec1 c ⊢ (dat1 V c).Φ 0 := by
  rw [show (dat1 V c).Φ 0 = PhiS V c 0 (Nat.zero_le _) from rfl]
  exact Idealize.SL.BI.Entails.refl _

/-- and after the last one the invariant gives it back. -/
theorem hout1 (c : Dev nD) : (dat1 V c).Φ (Fin.last cfg1.N) ⊢ Pipeline.ΦA spec1 c := by
  rw [show (dat1 V c).Φ (Fin.last cfg1.N) = PhiS V c cfg1.N (Nat.le_refl _) from rfl]
  exact PhiS_forget V c _ _

end Cert.Kernel.Run
-- ==== Proof.Run.lean ====
/- The whole run of @main: the host reshapes and the two kernel calls in order, the buffers' contents at each boundary as
   a fold from the launch, and what every final state holds. The frame claim reads the arguments off it. -/
module

public import proofs.«01_k».proof.Proof.ProjData
public import Idealize.ShloMosaic.Lib.Pipeline.RegionsLoop
public import Idealize.ShloMosaic.Lib.Pipeline.FrameSuffix

@[expose] public section

-- membership in a rectangle of production extents (`View.cover_of_tiled`): the elaborator's structural look
-- recurses once per coordinate of the long axes
set_option maxRecDepth 16384

noncomputable section

namespace Cert.Kernel.Run

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3, main_v4]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hi := hin1 (V3 m ρ) c
    rw [show (pdats m ρ 1 c).Φ 0 = (dat1 (V3 m ρ) c).Φ 0 from rfl]
    unfold Pipeline.ΦA at hi
    iintro ⟨Hp, -, Hr⟩
    iapply hi
    isplitl [Hr]; · iexact Hr
    iexact Hp
  hout c := by
    rw [Pipeline.ownSems0_none]
    have ho := hout1 (V3 m ρ) c
    rw [show (pdats m ρ 1 c).Φ (Fin.last _) = (dat1 (V3 m ρ) c).Φ (Fin.last cfg1.N) from rfl]
    unfold Pipeline.ΦA at ho
    iintro HΦ
    ihave H := ho $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every weakly fair execution of @main terminates, nothing faulting, and every
    final state has every unscoped buffer at the last boundary's contents and every semaphore counter at zero. -/
theorem run_all : θ_run defs (onTc (τ := τ) (main (F := F))) ⟨m, fun _ => 0, ρ⟩ (fun r => (∀ c : Dev nD,
      ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, reg1]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: every final state has the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun s h => ⟨(fun c =>
      ⟨(h.1 c _ (mem_uc main_arg0 (by decide))).trans (W4_main_arg0 m ρ c), (h.1 c _ (mem_uc main_arg1 (by decide))).trans (W4_main_arg1 m ρ c), (h.1 c _ (mem_uc main_arg2 (by decide))).trans (W4_main_arg2 m ρ c), (h.1 c _ (mem_uc main_arg3 (by decide))).trans (W4_main_arg3 m ρ c), (h.1 c _ (mem_uc main_arg4 (by decide))).trans (W4_main_arg4 m ρ c)⟩), h.2⟩) (run_all m ρ)

end Cert.Kernel.Run
-- ==== Proof.QuantIdeal.lean ====
/- The first kernel call, `cc0_quant`, which turns every token of `x` into fp8 codes and one power-of-two scale:
   what its body leaves in the two output buffers, as a function of the input block, and the body obligation
   of its pipeline. Each of its 48 points handles 64 whole tokens and carries nothing to the next point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S64x15744 := Rect.unit (s := S64x15744) ![0, 0] S64x15744.size inb_S64x15744_S64x15744_0_0
abbrev r0_1 : Rect S64x1 := Rect.unit (s := S64x1) ![0, 0] S64x1.size inb_S64x1_S64x1_0_0

/-! ## What the body leaves in each output window's buffer -/

/-! ### Values of the body that both stores read -/

def k0_pay8 (x0 : Vec F S64x15744 .bf16) : FVec F S64x1 .f32 :=
  k0_pay3 (View.ld x0 r0_0) -- `v7`
def k0_pay9 (x0 : Vec F S64x15744 .bf16) : IVec S64x1 32 :=
  k0_pay4 (View.ld x0 r0_0) -- `v43`

/-- Window 1's staging buffer after the body, from the input windows' blocks: its 1 store as pieces, LAST
    FIRST (Lib/Pipeline/FrameBody.lean `View.canon`; the payloads are the skeleton's and the values stated above). -/
def out0_1 (x0 : Vec F S64x15744 .bf16) : Vec F S64x15744 .fp8e4m3 :=
  View.canon [⟨r0_0, k0_pay1 (k0_pay7 (k0_pay2 (View.ld x0 r0_0)) (k0_pay8 x0) (k0_pay9 x0))⟩]

/-- Its stores tile the buffer (checked by evaluation), so they cover it. -/
theorem cover0_1 (p0 : Vec F S64x15744 .fp8e4m3) (y : S64x15744.Idx) :
    ∃ pc ∈ ([⟨r0_0, p0⟩] : List (View.Piece (Elt F) S64x15744 .fp8e4m3)), y ∈ pc.1.set :=
  View.cover_of_tiled [⟨r0_0, p0⟩] S64x15744.size (by rfl) y

/-- Window 2's staging buffer after the body, from the input windows' blocks: its 1 store as pieces, LAST
    FIRST (Lib/Pipeline/FrameBody.lean `View.canon`; the payloads are the skeleton's and the values stated above). -/
def out0_2 (x0 : Vec F S64x15744 .bf16) : Vec F S64x1 .f32 :=
  View.canon [⟨r0_1, k0_pay6 (k0_pay8 x0) (k0_pay9 x0)⟩]

/-- Its stores tile the buffer (checked by evaluation), so they cover it. -/
theorem cover0_2 (p0 : Vec F S64x1 .f32) (y : S64x1.Idx) :
    ∃ pc ∈ ([⟨r0_1, p0⟩] : List (View.Piece (Elt F) S64x1 .f32)), y ∈ pc.1.set :=
  View.cover_of_tiled [⟨r0_1, p0⟩] S64x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S64x15744 .bf16) (harg1 : arg1.IsWhole) (arg2 : Memref sig .tc .vmem S64x15744 .fp8e4m3) (harg2 : arg2.IsWhole) (arg3 : Memref sig .tc .vmem S64x1 .f32) (harg3 : arg3.IsWhole)
    (x0 : Vec F S64x15744 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant i arg1 harg1 arg2 harg2 arg3 harg3) K := by
  simp only [cc0_quant_eq_skeleton]; unfold cc0_quant_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run
-- ==== Proof.ProjIdeal.lean ====
/- The body of the second kernel call, `cc1_proj`, which multiplies the codes by the weight, adds the residual, and at
   the last column tile of a row normalises the whole row and quantises it. What each part of it leaves, as functions of
   the buffers it reads: the residual tile, the sum of squares, and at the last tile the row's codes and scales. -/
module

public import proofs.«01_k».proof.Proof.QuantIdeal

@[expose] public section

-- membership in a rectangle of production extents (`View.cover_of_tiled`): the elaborator's structural look
-- recurses once per coordinate of the long axes
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Small facts about whole memrefs -/

theorem zero2 : (![0, 0] : Fin 2 → ℕ) = fun _ => 0 := by funext a; fin_cases a <;> rfl

/-- A load from a whole memref whose buffer was filled from `X` reads `X` at the load's indices. -/
theorem readAt_unread {sp : Space} {S : Shape} {e : EltTy} (M : Memref sig .tc sp S e) (h : M.IsWhole) (X : S.Idx → Elt F e) (r : Rect S) :
    M.view.readAt (Elt F) r.toLoadRect (h.unread X) = View.ld X r := by
  funext x
  exact congrFun (h.read_unread X) (r.idx x)

/-- One store through a view: its payload on its rectangle, the earlier contents elsewhere. -/
theorem read_writes_one {sp : Space} {S : Shape} {e : EltTy} (v : View sig .tc sp S e) (f : v.ty.Contents (Elt F)) (r : Rect S)
    (w : r.shape.Idx → Elt F e) :
    v.read (Elt F) (v.writes (Elt F) f [⟨r, w⟩]) = r.overlay (v.read (Elt F) f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]
    rfl

/-! ## The rectangles of the last point: slab `k` of gamma, tile `k` of the row, slab `k` of the codes -/

abbrev rg0 : Rect S1x5120 := Rect.unit (s := S1x5120) ![0, 0] S1x512.size inb_S1x5120_S1x512_0_0
abbrev rg1 : Rect S1x5120 := Rect.unit (s := S1x5120) ![0, 512] S1x512.size inb_S1x5120_S1x512_0_512
abbrev rg2 : Rect S1x5120 := Rect.unit (s := S1x5120) ![0, 1024] S1x512.size inb_S1x5120_S1x512_0_1024
abbrev rg3 : Rect S1x5120 := Rect.unit (s := S1x5120) ![0, 1536] S1x512.size inb_S1x5120_S1x512_0_1536
abbrev rg4 : Rect S1x5120 := Rect.unit (s := S1x5120) ![0, 2048] S1x512.size inb_S1x5120_S1x512_0_2048
abbrev rg5 : Rect S1x5120 := Rect.unit (s := S1x5120) ![0, 2560] S1x512.size inb_S1x5120_S1x512_0_2560
abbrev rg6 : Rect S1x5120 := Rect.unit (s := S1x5120) ![0, 3072] S1x512.size inb_S1x5120_S1x512_0_3072
abbrev rg7 : Rect S1x5120 := Rect.unit (s := S1x5120) ![0, 3584] S1x512.size inb_S1x5120_S1x512_0_3584
abbrev rg8 : Rect S1x5120 := Rect.unit (s := S1x5120) ![0, 4096] S1x512.size inb_S1x5120_S1x512_0_4096
abbrev rg9 : Rect S1x5120 := Rect.unit (s := S1x5120) ![0, 4608] S1x512.size inb_S1x5120_S1x512_0_4608
abbrev re0 : Rect S10x512x512 := Rect.unit (s := S10x512x512) ![0, 0, 0] S1x512x512.size inb_S10x512x512_S1x512x512_0_0_0
abbrev re1 : Rect S10x512x512 := Rect.unit (s := S10x512x512) ![1, 0, 0] S1x512x512.size inb_S10x512x512_S1x512x512_1_0_0
abbrev re2 : Rect S10x512x512 := Rect.unit (s := S10x512x512) ![2, 0, 0] S1x512x512.size inb_S10x512x512_S1x512x512_2_0_0
abbrev re3 : Rect S10x512x512 := Rect.unit (s := S10x512x512) ![3, 0, 0] S1x512x512.size inb_S10x512x512_S1x512x512_3_0_0
abbrev re4 : Rect S10x512x512 := Rect.unit (s := S10x512x512) ![4, 0, 0] S1x512x512.size inb_S10x512x512_S1x512x512_4_0_0
abbrev re5 : Rect S10x512x512 := Rect.unit (s := S10x512x512) ![5, 0, 0] S1x512x512.size inb_S10x512x512_S1x512x512_5_0_0
abbrev re6 : Rect S10x512x512 := Rect.unit (s := S10x512x512) ![6, 0, 0] S1x512x512.size inb_S10x512x512_S1x512x512_6_0_0
abbrev re7 : Rect S10x512x512 := Rect.unit (s := S10x512x512) ![7, 0, 0] S1x512x512.size inb_S10x512x512_S1x512x512_7_0_0
abbrev re8 : Rect S10x512x512 := Rect.unit (s := S10x512x512) ![8, 0, 0] S1x512x512.size inb_S10x512x512_S1x512x512_8_0_0
abbrev re9 : Rect S10x512x512 := Rect.unit (s := S10x512x512) ![9, 0, 0] S1x512x512.size inb_S10x512x512_S1x512x512_9_0_0
abbrev ry0 : Rect S512x5120 := Rect.unit (s := S512x5120) ![0, 0] S512x512.size inb_S512x5120_S512x512_0_0
abbrev ry1 : Rect S512x5120 := Rect.unit (s := S512x5120) ![0, 512] S512x512.size inb_S512x5120_S512x512_0_512
abbrev ry2 : Rect S512x5120 := Rect.unit (s := S512x5120) ![0, 1024] S512x512.size inb_S512x5120_S512x512_0_1024
abbrev ry3 : Rect S512x5120 := Rect.unit (s := S512x5120) ![0, 1536] S512x512.size inb_S512x5120_S512x512_0_1536
abbrev ry4 : Rect S512x5120 := Rect.unit (s := S512x5120) ![0, 2048] S512x512.size inb_S512x5120_S512x512_0_2048
abbrev ry5 : Rect S512x5120 := Rect.unit (s := S512x5120) ![0, 2560] S512x512.size inb_S512x5120_S512x512_0_2560
abbrev ry6 : Rect S512x5120 := Rect.unit (s := S512x5120) ![0, 3072] S512x512.size inb_S512x5120_S512x512_0_3072
abbrev ry7 : Rect S512x5120 := Rect.unit (s := S512x5120) ![0, 3584] S512x512.size inb_S512x5120_S512x512_0_3584
abbrev ry8 : Rect S512x5120 := Rect.unit (s := S512x5120) ![0, 4096] S512x512.size inb_S512x5120_S512x512_0_4096
abbrev ry9 : Rect S512x5120 := Rect.unit (s := S512x5120) ![0, 4608] S512x512.size inb_S512x5120_S512x512_0_4608
abbrev q0 : Rect S512x15744 := Rect.unit (s := S512x15744) ![0, 0] S512x15744.size inb_S512x15744_S512x15744_0_0
abbrev q1 : Rect S15744x512 := Rect.unit (s := S15744x512) ![0, 0] S15744x512.size inb_S15744x512_S15744x512_0_0
abbrev q3 : Rect S1x512 := Rect.unit (s := S1x512) ![0, 0] S1x512.size inb_S1x512_S1x512_0_0
abbrev q4 : Rect S512x512 := Rect.unit (s := S512x512) ![0, 0] S512x512.size inb_S512x512_S512x512_0_0
abbrev rcol : Rect S512x1 := Rect.unit (s := S512x1) ![0, 0] S512x1.size inb_S512x1_S512x1_0_0

/-- A store of the whole residual tile covers it, -/
theorem cover4 (p0 : Vec F S512x512 .bf16) (y : S512x512.Idx) : ∃ pc ∈ ([⟨q4, p0⟩] : List (View.Piece (Elt F) S512x512 .bf16)), y ∈ pc.1.set :=
  View.cover_of_tiled [⟨q4, p0⟩] S512x512.size (by rfl) y

/-- and a store of a whole column likewise. -/
theorem coverCol (p0 : Vec F S512x1 .f32) (y : S512x1.Idx) : ∃ pc ∈ ([⟨rcol, p0⟩] : List (View.Piece (Elt F) S512x1 .f32)), y ∈ pc.1.set :=
  View.cover_of_tiled [⟨rcol, p0⟩] S512x1.size (by rfl) y

/-! ## What a point leaves -/

section Tile
variable (x0 : Vec F S512x15744 .fp8e4m3) (x1 : Vec F S15744x512 .fp8e4m3) (x2 : Vec F S512x1 .f32) (x3 : Vec F S1x512 .f32) (x4 : Vec F S512x512 .bf16)

/-- The residual tile a point computes from its blocks. -/
def rTile : Vec F S512x512 .bf16 := View.canon [⟨q4, k1_pay29 (View.ld x0 q0) (View.ld x1 q1) (View.ld x2 rcol) (View.ld x3 q3) (View.ld x4 q4)⟩]

/-- The row scratch after a point: its tile at the point's slice, the other slices as they were. -/
def putTile (i : grid1.Coords) (d : Vec F S10x512x512 .bf16) : Vec F S10x512x512 .bf16 :=
  (Rect.unit (s := S10x512x512) (k1_off1 i) S1x512x512.size (k1_off1_inb i)).overlay d (k1_pay30 (View.ld x0 q0) (View.ld x1 q1) (View.ld x2 rcol) (View.ld x3 q3) (View.ld x4 q4))

/-- The sums of squares after the first tile of a row, -/
def ssFirst : Vec F S512x1 .f32 := View.canon [⟨rcol, k1_pay32 (View.ld x0 q0) (View.ld x1 q1) (View.ld x2 rcol) (View.ld x3 q3) (View.ld x4 q4)⟩]

/-- and after a later one, from those before it. -/
def ssNext (s : Vec F S512x1 .f32) : Vec F S512x1 .f32 := View.canon [⟨rcol, k1_pay33 (View.ld x0 q0) (View.ld x1 q1) (View.ld x2 rcol) (View.ld x3 q3) (View.ld x4 q4) (View.ld s rcol)⟩]

end Tile

section Finish
/-- The reciprocal root mean square of each row. -/
def rsOf (s : Vec F S512x1 .f32) : FVec F S512x1 .f32 := k1_pay1 (View.ld s rcol)
/-- The largest magnitude of the normalised row over tiles 0 and 1, -/
def amax1 (g : Vec F S1x5120 .bf16) (e : Vec F S10x512x512 .bf16) (s : Vec F S512x1 .f32) : FVec F S512x1 .f32 := k1_pay2 (View.ld s rcol) (View.ld g rg0) (View.ld e re0) (View.ld g rg1) (View.ld e re1)
/-- over tiles 0 to 4, -/
def amax4 (g : Vec F S1x5120 .bf16) (e : Vec F S10x512x512 .bf16) (s : Vec F S512x1 .f32) : FVec F S512x1 .f32 := k1_pay4 (rsOf s) (amax1 g e s) (k1_pay3 (View.ld g rg2)) (View.ld e re2) (View.ld g rg3) (View.ld e re3) (View.ld g rg4) (View.ld e re4)
/-- over tiles 0 to 7, -/
def amax7 (g : Vec F S1x5120 .bf16) (e : Vec F S10x512x512 .bf16) (s : Vec F S512x1 .f32) : FVec F S512x1 .f32 := k1_pay6 (rsOf s) (amax4 g e s) (k1_pay5 (View.ld g rg5)) (View.ld e re5) (View.ld g rg6) (View.ld e re6) (View.ld g rg7) (View.ld e re7)
/-- and over the row, times the constant 1/448. -/
def ratioOf (g : Vec F S1x5120 .bf16) (e : Vec F S10x512x512 .bf16) (s : Vec F S512x1 .f32) : FVec F S512x1 .f32 := k1_pay8 (rsOf s) (amax7 g e s) (k1_pay7 (View.ld g rg8)) (View.ld e re8) (View.ld g rg9) (View.ld e re9)
/-- The two values the search for its exponent field starts from. -/
def exp0 (g : Vec F S1x5120 .bf16) (e : Vec F S10x512x512 .bf16) (s : Vec F S512x1 .f32) : IVec S512x1 32 := k1_pay9 (rsOf s) (amax7 g e s) (k1_pay7 (View.ld g rg8)) (View.ld e re8) (View.ld g rg9) (View.ld e re9)
def exp1 (g : Vec F S1x5120 .bf16) (e : Vec F S10x512x512 .bf16) (s : Vec F S512x1 .f32) : IVec S512x1 32 := k1_pay10 (rsOf s) (amax7 g e s) (k1_pay7 (View.ld g rg8)) (View.ld e re8) (View.ld g rg9) (View.ld e re9)
/-- The exponent field the scales are made from. -/
def expOf (g : Vec F S1x5120 .bf16) (e : Vec F S10x512x512 .bf16) (s : Vec F S512x1 .f32) : IVec S512x1 32 := k1_pay12 (ratioOf g e s) (exp0 g e s) (exp1 g e s) k1_pay11
/-- The inverse scales. -/
def invOf (g : Vec F S1x5120 .bf16) (e : Vec F S10x512x512 .bf16) (s : Vec F S512x1 .f32) : FVec F S512x1 .f32 := k1_pay16 (expOf g e s)
/-- The scales. -/
def ysOut (g : Vec F S1x5120 .bf16) (e : Vec F S10x512x512 .bf16) (s : Vec F S512x1 .f32) : Vec F S512x1 .f32 :=
  View.canon [⟨rcol, k1_pay15 (k1_pay13 (ratioOf g e s) (exp0 g e s) (exp1 g e s) k1_pay11) k1_pay14⟩]
/-- What the last point of a row stores into columns 0 to 511 of the codes. -/
def yPay0 (g : Vec F S1x5120 .bf16) (e : Vec F S10x512x512 .bf16) (s : Vec F S512x1 .f32) : Vec F S512x512 .fp8e4m3 :=
  k1_pay17 (rsOf s) (expOf g e s) (View.ld g rg0) (View.ld e re0)
/-- What the last point of a row stores into columns 512 to 1023 of the codes. -/
def yPay1 (g : Vec F S1x5120 .bf16) (e : Vec F S10x512x512 .bf16) (s : Vec F S512x1 .f32) : Vec F S512x512 .fp8e4m3 :=
  k1_pay19 (k1_pay18 (rsOf s) (expOf g e s) (View.ld g rg1) (View.ld e re1)) (Scalar.ofBits .f32 0xC3E00000#32) (Scalar.ofBits .f32 0x43E00000#32)
/-- What the last point of a row stores into columns 1024 to 1535 of the codes. -/
def yPay2 (g : Vec F S1x5120 .bf16) (e : Vec F S10x512x512 .bf16) (s : Vec F S512x1 .f32) : Vec F S512x512 .fp8e4m3 :=
  k1_pay20 (rsOf s) (invOf g e s) (View.ld g rg2) (View.ld e re2)
/-- What the last point of a row stores into columns 1536 to 2047 of the codes. -/
def yPay3 (g : Vec F S1x5120 .bf16) (e : Vec F S10x512x512 .bf16) (s : Vec F S512x1 .f32) : Vec F S512x512 .fp8e4m3 :=
  k1_pay22 (k1_pay21 (rsOf s) (invOf g e s) (View.ld g rg3) (View.ld e re3))
/-- What the last point of a row stores into columns 2048 to 2559 of the codes. -/
def yPay4 (g : Vec F S1x5120 .bf16) (e : Vec F S10x512x512 .bf16) (s : Vec F S512x1 .f32) : Vec F S512x512 .fp8e4m3 :=
  k1_pay23 (rsOf s) (invOf g e s) (View.ld g rg4) (View.ld e re4)
/-- What the last point of a row stores into columns 2560 to 3071 of the codes. -/
def yPay5 (g : Vec F S1x5120 .bf16) (e : Vec F S10x512x512 .bf16) (s : Vec F S512x1 .f32) : Vec F S512x512 .fp8e4m3 :=
  k1_pay24 (rsOf s) (invOf g e s) (View.ld g rg5) (View.ld e re5)
/-- What the last point of a row stores into columns 3072 to 3583 of the codes. -/
def yPay6 (g : Vec F S1x5120 .bf16) (e : Vec F S10x512x512 .bf16) (s : Vec F S512x1 .f32) : Vec F S512x512 .fp8e4m3 :=
  k1_pay25 (rsOf s) (invOf g e s) (View.ld g rg6) (View.ld e re6)
/-- What the last point of a row stores into columns 3584 to 4095 of the codes. -/
def yPay7 (g : Vec F S1x5120 .bf16) (e : Vec F S10x512x512 .bf16) (s : Vec F S512x1 .f32) : Vec F S512x512 .fp8e4m3 :=
  k1_pay26 (rsOf s) (invOf g e s) (View.ld g rg7) (View.ld e re7)
/-- What the last point of a row stores into columns 4096 to 4607 of the codes. -/
def yPay8 (g : Vec F S1x5120 .bf16) (e : Vec F S10x512x512 .bf16) (s : Vec F S512x1 .f32) : Vec F S512x512 .fp8e4m3 :=
  k1_pay27 (rsOf s) (invOf g e s) (View.ld g rg8) (View.ld e re8)
/-- What the last point of a row stores into columns 4608 to 5119 of the codes. -/
def yPay9 (g : Vec F S1x5120 .bf16) (e : Vec F S10x512x512 .bf16) (s : Vec F S512x1 .f32) : Vec F S512x512 .fp8e4m3 :=
  k1_pay28 (rsOf s) (invOf g e s) (View.ld g rg9) (View.ld e re9)

/-- The row's codes: the ten slabs. -/
def yOut (g : Vec F S1x5120 .bf16) (e : Vec F S10x512x512 .bf16) (s : Vec F S512x1 .f32) : Vec F S512x5120 .fp8e4m3 :=
  View.canon [⟨ry9, yPay9 g e s⟩, ⟨ry8, yPay8 g e s⟩, ⟨ry7, yPay7 g e s⟩, ⟨ry6, yPay6 g e s⟩, ⟨ry5, yPay5 g e s⟩, ⟨ry4, yPay4 g e s⟩, ⟨ry3, yPay3 g e s⟩, ⟨ry2, yPay2 g e s⟩, ⟨ry1, yPay1 g e s⟩, ⟨ry0, yPay0 g e s⟩]

/-- The ten slabs cover the row. -/
theorem ycover (p0 p1 p2 p3 p4 p5 p6 p7 p8 p9 : Vec F S512x512 .fp8e4m3) (y : S512x5120.Idx) :
    ∃ pc ∈ ([⟨ry9, p9⟩, ⟨ry8, p8⟩, ⟨ry7, p7⟩, ⟨ry6, p6⟩, ⟨ry5, p5⟩, ⟨ry4, p4⟩, ⟨ry3, p3⟩, ⟨ry2, p2⟩, ⟨ry1, p1⟩, ⟨ry0, p0⟩] : List (View.Piece (Elt F) S512x5120 .fp8e4m3)), y ∈ pc.1.set :=
  View.cover_of_tiled [⟨ry9, p9⟩, ⟨ry8, p8⟩, ⟨ry7, p7⟩, ⟨ry6, p6⟩, ⟨ry5, p5⟩, ⟨ry4, p4⟩, ⟨ry3, p3⟩, ⟨ry2, p2⟩, ⟨ry1, p1⟩, ⟨ry0, p0⟩] S512x512.size (by rfl) y
end Finish

/-! ## The triples -/

section Triples
variable (c : Dev nD) (E : Set ℕ) (i : grid1.Coords)
  (arg2 : Memref sig .tc .vmem S512x15744 .fp8e4m3) (harg2 : arg2.IsWhole)
  (arg3 : Memref sig .tc .vmem S15744x512 .fp8e4m3) (harg3 : arg3.IsWhole)
  (arg4 : Memref sig .tc .vmem S512x1 .f32) (harg4 : arg4.IsWhole)
  (arg5 : Memref sig .tc .vmem S1x512 .f32) (harg5 : arg5.IsWhole)
  (arg6 : Memref sig .tc .vmem S512x512 .bf16) (harg6 : arg6.IsWhole)
  (arg7 : Memref sig .tc .vmem S1x5120 .bf16) (harg7 : arg7.IsWhole)
  (arg8 : Memref sig .tc .vmem S512x512 .bf16) (harg8 : arg8.IsWhole)
  (arg9 : Memref sig .tc .vmem S512x5120 .fp8e4m3) (harg9 : arg9.IsWhole)
  (arg10 : Memref sig .tc .vmem S512x1 .f32) (harg10 : arg10.IsWhole)
  (arg11 : Memref sig .tc .vmem S10x512x512 .bf16) (harg11 : arg11.IsWhole)
  (arg12 : Memref sig .tc .vmem S512x1 .f32) (harg12 : arg12.IsWhole)
  (x0 : Vec F S512x15744 .fp8e4m3) (x1 : Vec F S15744x512 .fp8e4m3) (x2 : Vec F S512x1 .f32) (x3 : Vec F S1x512 .f32) (x4 : Vec F S512x512 .bf16) (x5 : Vec F S1x5120 .bf16)

set_option maxHeartbeats 2000000 in
/-- The product part of the body at the first tile of a row: the sums of squares start from this tile's. -/
theorem sound_part_first (hc0 : (Scalar.cmpi .ne (Scalar.extui (Scalar.cmpi .eq (BitVec.ofNat 32 (i 1).val) 0#32)) 0#32) = 1#1) (hc1 : ¬(Scalar.cmpi .ne (Scalar.extui (Scalar.cmpi .sgt (BitVec.ofNat 32 (i 1).val) 0#32)) 0#32) = 1#1) (d : Vec F S10x512x512 .bf16) (K : sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg11 fullShare d ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (rTile x0 x1 x2 x3 x4) ∗ owns (c : Thread nD τ) arg11 fullShare (putTile x0 x1 x2 x3 x4 i d) ∗ owns (c : Thread nD τ) arg12 fullShare (ssFirst x0 x1 x2 x3 x4)) -∗ K))
      ⊢ wp frame (wpE (defs₀ (F := F)) Variants.none c none) E (k1_part11_skel i arg2 harg2 arg3 harg3 arg4 harg4 arg5 harg5 arg6 harg6 arg7 harg7 arg8 harg8 arg9 harg9 arg10 harg10 arg11 harg11 arg12 harg12) (fun _ => K) := by
  unfold k1_part11_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f11, %hf11, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg11.eq_unread hf11
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H6]
  · iexists _; isplitr
    swap; · iexact H6
    ipureintro
    refine (View.read_writes_eq_canon _ _ _ (cover4 _)).trans ?_
    simp only [readAt_unread]
    rfl
  isplitl [H11]
  · iexists _; isplitr
    swap; · iexact H11
    ipureintro
    refine (read_writes_one _ _ _ _).trans ?_
    simp only [harg11.read_unread, readAt_unread]
    rfl
  iexists _; isplitr
  swap; · iexact H12
  ipureintro
  refine (View.read_writes_eq_canon _ _ _ (coverCol _)).trans ?_
  simp only [readAt_unread]
  rfl

set_option maxHeartbeats 2000000 in
/-- The product part of the body at a later tile of a row: this tile's squares are added to those before. -/
theorem sound_part_next (hc0 : ¬(Scalar.cmpi .ne (Scalar.extui (Scalar.cmpi .eq (BitVec.ofNat 32 (i 1).val) 0#32)) 0#32) = 1#1) (hc1 : (Scalar.cmpi .ne (Scalar.extui (Scalar.cmpi .sgt (BitVec.ofNat 32 (i 1).val) 0#32)) 0#32) = 1#1) (d : Vec F S10x512x512 .bf16) (s : Vec F S512x1 .f32) (K : sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg11 fullShare d ∗ owns (c : Thread nD τ) arg12 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (rTile x0 x1 x2 x3 x4) ∗ owns (c : Thread nD τ) arg11 fullShare (putTile x0 x1 x2 x3 x4 i d) ∗ owns (c : Thread nD τ) arg12 fullShare (ssNext x0 x1 x2 x3 x4 s)) -∗ K))
      ⊢ wp frame (wpE (defs₀ (F := F)) Variants.none c none) E (k1_part11_skel i arg2 harg2 arg3 harg3 arg4 harg4 arg5 harg5 arg6 harg6 arg7 harg7 arg8 harg8 arg9 harg9 arg10 harg10 arg11 harg11 arg12 harg12) (fun _ => K) := by
  unfold k1_part11_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg11.eq_unread hf11; obtain rfl := harg12.eq_unread hf12
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H6]
  · iexists _; isplitr
    swap; · iexact H6
    ipureintro
    refine (View.read_writes_eq_canon _ _ _ (cover4 _)).trans ?_
    simp only [readAt_unread]
    rfl
  isplitl [H11]
  · iexists _; isplitr
    swap; · iexact H11
    ipureintro
    refine (read_writes_one _ _ _ _).trans ?_
    simp only [harg11.read_unread, readAt_unread]
    rfl
  iexists _; isplitr
  swap; · iexact H12
  ipureintro
  refine (View.read_writes_eq_canon _ _ _ (coverCol _)).trans ?_
  simp only [readAt_unread]
  rfl

end Triples

end Cert.KernelIdeal.Run
-- ==== Proof.ProjBodyIdeal.lean ====
/- The whole body of `cc1_proj` at its three kinds of point: the first tile of a row, a tile in the middle, and the
   last one, which also normalises and quantises the row. -/
module

public import proofs.«01_k».proof.Proof.ProjIdeal

@[expose] public section

-- membership in a rectangle of production extents (`View.cover_of_tiled`): the elaborator's structural look
-- recurses once per coordinate of the long axes
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Triples
variable (c : Dev nD) (E : Set ℕ) (i : grid1.Coords)
  (arg2 : Memref sig .tc .vmem S512x15744 .fp8e4m3) (harg2 : arg2.IsWhole)
  (arg3 : Memref sig .tc .vmem S15744x512 .fp8e4m3) (harg3 : arg3.IsWhole)
  (arg4 : Memref sig .tc .vmem S512x1 .f32) (harg4 : arg4.IsWhole)
  (arg5 : Memref sig .tc .vmem S1x512 .f32) (harg5 : arg5.IsWhole)
  (arg6 : Memref sig .tc .vmem S512x512 .bf16) (harg6 : arg6.IsWhole)
  (arg7 : Memref sig .tc .vmem S1x5120 .bf16) (harg7 : arg7.IsWhole)
  (arg8 : Memref sig .tc .vmem S512x512 .bf16) (harg8 : arg8.IsWhole)
  (arg9 : Memref sig .tc .vmem S512x5120 .fp8e4m3) (harg9 : arg9.IsWhole)
  (arg10 : Memref sig .tc .vmem S512x1 .f32) (harg10 : arg10.IsWhole)
  (arg11 : Memref sig .tc .vmem S10x512x512 .bf16) (harg11 : arg11.IsWhole)
  (arg12 : Memref sig .tc .vmem S512x1 .f32) (harg12 : arg12.IsWhole)
  (x0 : Vec F S512x15744 .fp8e4m3) (x1 : Vec F S15744x512 .fp8e4m3) (x2 : Vec F S512x1 .f32) (x3 : Vec F S1x512 .f32) (x4 : Vec F S512x512 .bf16) (x5 : Vec F S1x5120 .bf16)

/-- The first tile of a row. -/
theorem sound_first (hc0 : (Scalar.cmpi .ne (Scalar.extui (Scalar.cmpi .eq (BitVec.ofNat 32 (i 1).val) 0#32)) 0#32) = 1#1) (hc1 : ¬(Scalar.cmpi .ne (Scalar.extui (Scalar.cmpi .sgt (BitVec.ofNat 32 (i 1).val) 0#32)) 0#32) = 1#1) (hc2 : ¬k1_cond3 i = 1#1) (d : Vec F S10x512x512 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg11 fullShare d ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (rTile x0 x1 x2 x3 x4) ∗ owns (c : Thread nD τ) arg11 fullShare (putTile x0 x1 x2 x3 x4 i d) ∗ owns (c : Thread nD τ) arg12 fullShare (ssFirst x0 x1 x2 x3 x4)) -∗ K ⟨⟩))
      ⊢ wp frame (wpE (defs₀ (F := F)) Variants.none c none) E (cc1_proj i arg2 harg2 arg3 harg3 arg4 harg4 arg5 harg5 arg6 harg6 arg7 harg7 arg8 harg8 arg9 harg9 arg10 harg10 arg11 harg11 arg12 harg12) K := by
  simp only [cc1_proj_eq_skeleton]; unfold cc1_proj_skel
  simp only [k1_part11_eq_skeleton]
  rw [wp_bind]
  iintro ⟨H0, H1, H2, H3, H4, H6, H11, H12, Hk⟩
  iapply (sound_part_first c E i arg2 harg2 arg3 harg3 arg4 harg4 arg5 harg5 arg6 harg6 arg7 harg7 arg8 harg8 arg9 harg9 arg10 harg10 arg11 harg11 arg12 harg12 x0 x1 x2 x3 x4 hc0 hc1 d _)
  isplitl [H0]; · iexact H0
  isplitl [H1]; · iexact H1
  isplitl [H2]; · iexact H2
  isplitl [H3]; · iexact H3
  isplitl [H4]; · iexact H4
  isplitl [H6]; · iexact H6
  isplitl [H11]; · iexact H11
  isplitl [H12]; · iexact H12
  iintro HH
  sl_exec (disch := sl_exact hc2)
  sl_step
  iapply Hk
  iexact HH

/-- A tile in the middle of a row. -/
theorem sound_mid (hc0 : ¬(Scalar.cmpi .ne (Scalar.extui (Scalar.cmpi .eq (BitVec.ofNat 32 (i 1).val) 0#32)) 0#32) = 1#1) (hc1 : (Scalar.cmpi .ne (Scalar.extui (Scalar.cmpi .sgt (BitVec.ofNat 32 (i 1).val) 0#32)) 0#32) = 1#1) (hc2 : ¬k1_cond3 i = 1#1) (d : Vec F S10x512x512 .bf16) (s : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg11 fullShare d ∗ owns (c : Thread nD τ) arg12 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (rTile x0 x1 x2 x3 x4) ∗ owns (c : Thread nD τ) arg11 fullShare (putTile x0 x1 x2 x3 x4 i d) ∗ owns (c : Thread nD τ) arg12 fullShare (ssNext x0 x1 x2 x3 x4 s)) -∗ K ⟨⟩))
      ⊢ wp frame (wpE (defs₀ (F := F)) Variants.none c none) E (cc1_proj i arg2 harg2 arg3 harg3 arg4 harg4 arg5 harg5 arg6 harg6 arg7 harg7 arg8 harg8 arg9 harg9 arg10 harg10 arg11 harg11 arg12 harg12) K := by
  simp only [cc1_proj_eq_skeleton]; unfold cc1_proj_skel
  simp only [k1_part11_eq_skeleton]
  rw [wp_bind]
  iintro ⟨H0, H1, H2, H3, H4, H6, H11, H12, Hk⟩
  iapply (sound_part_next c E i arg2 harg2 arg3 harg3 arg4 harg4 arg5 harg5 arg6 harg6 arg7 harg7 arg8 harg8 arg9 harg9 arg10 harg10 arg11 harg11 arg12 harg12 x0 x1 x2 x3 x4 hc0 hc1 d s _)
  isplitl [H0]; · iexact H0
  isplitl [H1]; · iexact H1
  isplitl [H2]; · iexact H2
  isplitl [H3]; · iexact H3
  isplitl [H4]; · iexact H4
  isplitl [H6]; · iexact H6
  isplitl [H11]; · iexact H11
  isplitl [H12]; · iexact H12
  iintro HH
  sl_exec (disch := sl_exact hc2)
  sl_step
  iapply Hk
  iexact HH

set_option maxHeartbeats 8000000 in
/-- The last tile of a row: the row's codes and scales are left in their two buffers. -/
theorem sound_last (hc0 : ¬(Scalar.cmpi .ne (Scalar.extui (Scalar.cmpi .eq (BitVec.ofNat 32 (i 1).val) 0#32)) 0#32) = 1#1) (hc1 : (Scalar.cmpi .ne (Scalar.extui (Scalar.cmpi .sgt (BitVec.ofNat 32 (i 1).val) 0#32)) 0#32) = 1#1) (hc2 : k1_cond3 i = 1#1) (d : Vec F S10x512x512 .bf16) (s : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare d ∗ owns (c : Thread nD τ) arg12 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (rTile x0 x1 x2 x3 x4)
            ∗ owns (c : Thread nD τ) arg9 fullShare (yOut x5 (putTile x0 x1 x2 x3 x4 i d) (ssNext x0 x1 x2 x3 x4 s)) ∗ owns (c : Thread nD τ) arg10 fullShare (ysOut x5 (putTile x0 x1 x2 x3 x4 i d) (ssNext x0 x1 x2 x3 x4 s))
            ∗ owns (c : Thread nD τ) arg11 fullShare (putTile x0 x1 x2 x3 x4 i d) ∗ owns (c : Thread nD τ) arg12 fullShare (ssNext x0 x1 x2 x3 x4 s)) -∗ K ⟨⟩))
      ⊢ wp frame (wpE (defs₀ (F := F)) Variants.none c none) E (cc1_proj i arg2 harg2 arg3 harg3 arg4 harg4 arg5 harg5 arg6 harg6 arg7 harg7 arg8 harg8 arg9 harg9 arg10 harg10 arg11 harg11 arg12 harg12) K := by
  simp only [cc1_proj_eq_skeleton]; unfold cc1_proj_skel
  simp only [k1_part11_eq_skeleton, k1_part10_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  rw [wp_bind]
  iintro ⟨H0, H1, H2, H3, H4, H5, H6, H7, H8, H11, H12, Hk⟩
  iapply (sound_part_next c E i arg2 harg2 arg3 harg3 arg4 harg4 arg5 harg5 arg6 harg6 arg7 harg7 arg8 harg8 arg9 harg9 arg10 harg10 arg11 harg11 arg12 harg12 x0 x1 x2 x3 x4 hc0 hc1 d s _)
  isplitl [H0]; · iexact H0
  isplitl [H1]; · iexact H1
  isplitl [H2]; · iexact H2
  isplitl [H3]; · iexact H3
  isplitl [H4]; · iexact H4
  isplitl [H6]; · iexact H6
  isplitl [H11]; · iexact H11
  isplitl [H12]; · iexact H12
  generalize (putTile x0 x1 x2 x3 x4 i d) = e
  generalize (ssNext x0 x1 x2 x3 x4 s) = s'
  unfold owns
  iintro ⟨H0, H1, H2, H3, H4, H6, ⟨%f11, %hf11, H11⟩, ⟨%f12, %hf12, H12⟩⟩
  icases H5 with ⟨%f5, %hf5, H5⟩
  icases H7 with ⟨%d7, %f7, -, H7⟩
  icases H8 with ⟨%d8, %f8, -, H8⟩
  subst hf11; subst hf12; subst hf5
  sl_exec (disch := sl_exact hc2)
  sl_step
  iapply Hk
  isplitl [H0]; · iexact H0
  isplitl [H1]; · iexact H1
  isplitl [H2]; · iexact H2
  isplitl [H3]; · iexact H3
  isplitl [H4]; · iexact H4
  isplitl [H5]
  · iexists _; isplitr; · ipureintro; rfl
    iexact H5
  isplitl [H6]; · iexact H6
  isplitl [H7]
  · iexists _; isplitr
    swap; · iexact H7
    ipureintro
    refine (View.read_writes_eq_canon _ _ _ (ycover _ _ _ _ _ _ _ _ _ _)).trans ?_
    rfl
  isplitl [H8]
  · iexists _; isplitr
    swap; · iexact H8
    ipureintro
    refine (View.read_writes_eq_canon _ _ _ (coverCol _)).trans ?_
    rfl
  isplitl [H11]
  · iexists _; isplitr; · ipureintro; rfl
    iexact H11
  iexists _; isplitr; · ipureintro; rfl
  iexact H12

end Triples

end Cert.KernelIdeal.Run
-- ==== Proof.ProjDataIdeal.lean ====
/- The pipeline of `cc1_proj`: what it carries from point to point, what its buffers hold after each point, and the
   body obligation at every point.

   The grid is 6 rows of blocks by 10 column tiles. Along a row the kernel keeps two scratch buffers: the ten residual
   tiles computed so far, and the sums of their squares. The tiles are filled one slice per point, so before the last
   point of a row the later slices hold whatever was there; the invariant therefore says only that the slices up to the
   current point hold their tiles. After the last point the ten slices are the whole row, whatever the scratch held before. -/
module

public import proofs.«01_k».proof.Proof.ProjBodyIdeal

@[expose] public section

-- membership in a rectangle of production extents (`View.cover_of_tiled`): the elaborator's structural look
-- recurses once per coordinate of the long axes
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the body is called with -/

abbrev ms1_0 (t : Fin cfg1.N) : Memref sig .tc .vmem S512x15744 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S15744x512 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x5120 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x5120 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x1 .f32 := win1_8.stage (cfg1.slots t 8)
abbrev hs1_8 (t : Fin cfg1.N) : (ms1_8 t).IsWhole := hstage1_8 ((cfg1.slots t 8).cast nbuf1_8)
abbrev scM1_0 : Memref sig .tc .vmem S10x512x512 .bf16 := Memref.whole cc1_scratch0
abbrev scM1_1 : Memref sig .tc .vmem S512x1 .f32 := Memref.whole cc1_scratch1

/-- The invariant of a kernel that names nothing it carries, with the two scratch buffers as memrefs. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The grid -/

theorem N1 : cfg1.N = 60 := N_1

/-- The column tile of a point. -/
theorem coord1 (t : Fin cfg1.N) : (grid1.coords t 1).val = t.val % 10 := by
  have e : (grid1.coords t 1).val = t.val / 1 % 10 := Pipeline.Grid.coords_val t 1 (by decide) rfl
  rw [e, Nat.div_one]

/-- The row of a point. -/
theorem coord0 (t : Fin cfg1.N) : (grid1.coords t 0).val = t.val / 10 := by
  have ht : t.val < 60 := Nat.lt_of_lt_of_eq t.isLt N1
  have e : (grid1.coords t 0).val = t.val / 10 % 6 := Pipeline.Grid.coords_val t 0 (by decide) rfl
  rw [e, Nat.mod_eq_of_lt (by omega)]

theorem hfirst (t : Fin cfg1.N) : (Scalar.cmpi .ne (Scalar.extui (Scalar.cmpi .eq (BitVec.ofNat 32 ((grid1.coords t) 1).val) 0#32)) 0#32) = 1#1 ↔ t.val % 10 = 0 := by
  have ht : t.val < 60 := Nat.lt_of_lt_of_eq t.isLt N1
  rw [coord1]
  word_cmp

theorem hnext : ∀ t : Fin cfg1.N, (Scalar.cmpi .ne (Scalar.extui (Scalar.cmpi .sgt (BitVec.ofNat 32 ((grid1.coords t) 1).val) 0#32)) 0#32) = 1#1 ↔ 1 ≤ t.val % 10 :=
  (by decide +kernel : ∀ t : Fin grid1.N, (Scalar.cmpi .ne (Scalar.extui (Scalar.cmpi .sgt (BitVec.ofNat 32 ((grid1.coords t) 1).val) 0#32)) 0#32) = 1#1 ↔ 1 ≤ t.val % 10)

theorem hlast (t : Fin cfg1.N) : k1_cond3 (grid1.coords t) = 1#1 ↔ t.val % 10 = 9 := by
  have ht : t.val < 60 := Nat.lt_of_lt_of_eq t.isLt N1
  simp only [k1_cond3, coord1]
  word_cmp

theorem hidle7 (t : Fin cfg1.N) : cfg1.idle 7 (cfg1.grid.coords t) = true ↔ ¬ t.val % 10 = 9 := by
  rw [← hlast t, show cfg1.idle 7 (cfg1.grid.coords t) = (!(k1_cond3 (grid1.coords t) == 1#1)) from rfl]; simp

theorem hidle8 (t : Fin cfg1.N) : cfg1.idle 8 (cfg1.grid.coords t) = true ↔ ¬ t.val % 10 = 9 := by
  rw [← hlast t, show cfg1.idle 8 (cfg1.grid.coords t) = (!(k1_cond3 (grid1.coords t) == 1#1)) from rfl]; simp

/-! ## What is carried -/

/-- The slice of the row scratch a point fills. -/
abbrev slice (t : Fin cfg1.N) : Rect S10x512x512 :=
  Rect.unit (s := S10x512x512) (k1_off1 (grid1.coords t)) S1x512x512.size (k1_off1_inb (grid1.coords t))

/-- The tile point `t` stores into its slice. -/
def pAt (c : Dev nD) (t : Fin cfg1.N) : (slice t).shape.Idx → Elt F .bf16 :=
  k1_pay30 (View.ld (iblk1 V c 0 t) q0) (View.ld (iblk1 V c 1 t) q1) (View.ld (iblk1 V c 2 t) rcol) (View.ld (iblk1 V c 3 t) q3) (View.ld (iblk1 V c 4 t) q4)

/-- The sums of squares after position `n`. -/
def ssAt (c : Dev nD) : (n : ℕ) → n < cfg1.N → Vec F S512x1 .f32
  | 0, h => ssFirst (iblk1 V c 0 ⟨0, h⟩) (iblk1 V c 1 ⟨0, h⟩) (iblk1 V c 2 ⟨0, h⟩) (iblk1 V c 3 ⟨0, h⟩) (iblk1 V c 4 ⟨0, h⟩)
  | n + 1, h => if (n + 1) % 10 = 0 then ssFirst (iblk1 V c 0 ⟨n + 1, h⟩) (iblk1 V c 1 ⟨n + 1, h⟩) (iblk1 V c 2 ⟨n + 1, h⟩) (iblk1 V c 3 ⟨n + 1, h⟩) (iblk1 V c 4 ⟨n + 1, h⟩)
      else ssNext (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (ssAt c n (Nat.lt_of_succ_lt h))

theorem ssAt_first (c : Dev nD) (t : Fin cfg1.N) (h0 : t.val % 10 = 0) :
    ssAt V c t.val t.isLt = ssFirst (iblk1 V c 0 t) (iblk1 V c 1 t) (iblk1 V c 2 t) (iblk1 V c 3 t) (iblk1 V c 4 t) := by
  obtain ⟨n, hn⟩ := t
  cases n with
  | zero => rfl
  | succ n => exact if_pos h0

theorem ssAt_next (c : Dev nD) (t : Fin cfg1.N) (h0 : ¬ t.val % 10 = 0) :
    ssAt V c t.val t.isLt = ssNext (iblk1 V c 0 t) (iblk1 V c 1 t) (iblk1 V c 2 t) (iblk1 V c 3 t) (iblk1 V c 4 t) (ssAt V c (t.val - 1) (Nat.lt_of_le_of_lt (Nat.sub_le _ _) t.isLt)) := by
  obtain ⟨n, hn⟩ := t
  cases n with
  | zero => exact absurd (Nat.zero_mod _) h0
  | succ n => exact if_neg h0

/-- After position `n` the scratch holds every tile of its row up to there. -/
def Row (c : Dev nD) (n : ℕ) (d : Vec F S10x512x512 .bf16) : Prop :=
  ∀ t : Fin cfg1.N, t.val / 10 = n / 10 → t.val ≤ n → ∀ x : (slice t).shape.Idx, d ((slice t).emb x) = pAt V c t x

/-- Two slices of one row are apart. -/
theorem slice_apart {t t' : Fin cfg1.N} (hr : t'.val / 10 = t.val / 10) (hne : t' ≠ t) (x : (slice t').shape.Idx) :
    (slice t').emb x ∉ (slice t).set := by
  rw [Rect.mem_set_unit]
  intro hall
  have h := hall 0
  have hv : (((slice t').emb x) 0).val = (k1_off1 (grid1.coords t')) 0 + 1 * (x 0).val := rfl
  have hx : (x 0).val < 1 := (x 0).isLt
  have e : ∀ u : Fin cfg1.N, (k1_off1 (grid1.coords u)) 0 = u.val % 10 := fun u => by
    rw [k1_off1_eq, ← coord1 u]; rfl
  have hs : (S1x512x512.size 0) = 1 := rfl
  rw [hv, e, e] at h
  have : t'.val ≠ t.val := fun h => hne (Fin.ext h)
  rw [hs] at h
  omega

/-- The first point of a row makes its slice hold its tile, -/
theorem Row_first (c : Dev nD) (t : Fin cfg1.N) (h0 : t.val % 10 = 0) (d : Vec F S10x512x512 .bf16) :
    Row V c t.val (putTile (iblk1 V c 0 t) (iblk1 V c 1 t) (iblk1 V c 2 t) (iblk1 V c 3 t) (iblk1 V c 4 t) (grid1.coords t) d) := by
  intro t' hr hle x
  obtain rfl : t' = t := Fin.ext (by omega)
  exact Rect.overlay_emb _ _ _ x

/-- and a later one keeps the earlier slices. -/
theorem Row_next (c : Dev nD) (t : Fin cfg1.N) (h0 : ¬ t.val % 10 = 0) (d : Vec F S10x512x512 .bf16) (hd : Row V c (t.val - 1) d) :
    Row V c t.val (putTile (iblk1 V c 0 t) (iblk1 V c 1 t) (iblk1 V c 2 t) (iblk1 V c 3 t) (iblk1 V c 4 t) (grid1.coords t) d) := by
  intro t' hr hle x
  by_cases he : t' = t
  · subst he; exact Rect.overlay_emb _ _ _ x
  · have : t'.val ≠ t.val := fun h => he (Fin.ext h)
    exact (Rect.overlay_of_not_mem _ _ _ (slice_apart hr he x)).trans (hd t' (by omega) (by omega) x)

/-- The point of tile `k` in the row of `t`. -/
def rowPt (t : Fin cfg1.N) (k : Fin 10) : Fin cfg1.N :=
  ⟨t.val / 10 * 10 + k.val, Nat.lt_of_lt_of_eq (by have h := Nat.lt_of_lt_of_eq t.isLt N1; have := k.isLt; omega) N1.symm⟩

/-- The place inside its slice of a place of the row scratch. -/
def inSlice (y : S10x512x512.Idx) : S1x512x512.Idx := fun a => match a with
  | ⟨0, _⟩ => ⟨0, Nat.zero_lt_one⟩
  | ⟨1, _⟩ => y 1
  | ⟨2, _⟩ => y 2

/-- The whole row of tiles, as the last point of the row leaves the scratch. -/
def rowAt (c : Dev nD) (t : Fin cfg1.N) : Vec F S10x512x512 .bf16 := fun y => pAt V c (rowPt t (y 0)) (inSlice y)

theorem emb_inSlice (t : Fin cfg1.N) (y : S10x512x512.Idx) : (slice (rowPt t (y 0))).emb (inSlice y) = y := by
  funext a
  apply Fin.ext
  show (k1_off1 (grid1.coords (rowPt t (y 0)))) a + 1 * (inSlice y a).val = (y a).val
  rw [k1_off1_eq, coord1]
  have hy : (y 0).val < 10 := (y 0).isLt
  fin_cases a
  · show (t.val / 10 * 10 + (y 0).val) % 10 + 1 * 0 = (y 0).val
    omega
  · show 0 + 1 * (y 1).val = (y 1).val
    omega
  · show 0 + 1 * (y 2).val = (y 2).val
    omega

/-- After the last point of a row nothing of the earlier contents is left. -/
theorem Row_last (c : Dev nD) (t : Fin cfg1.N) (h9 : t.val % 10 = 9) (d : Vec F S10x512x512 .bf16) (hd : Row V c t.val d) :
    d = rowAt V c t := by
  funext y
  have hy : (y 0).val < 10 := (y 0).isLt
  have h := hd (rowPt t (y 0)) (by show (t.val / 10 * 10 + (y 0).val) / 10 = _; omega) (by show t.val / 10 * 10 + (y 0).val ≤ _; omega) (inSlice y)
  rw [emb_inSlice] at h
  exact h

/-- The invariant before position `n`. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, ⌜Row V c n d⌝ ∗ owns (c : Thread nD τ) scM1_0 fullShare d) ∗ owns (c : Thread nD τ) scM1_1 fullShare (ssAt V c n hn)) ∗ (∃ r, prngReg c r))

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, ⌜Row V c n d⌝ ∗ owns (c : Thread nD τ) scM1_0 fullShare d) ∗ owns (c : Thread nD τ) scM1_1 fullShare (ssAt V c n hn)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, ⌜Row V c (n - 1) d⌝ ∗ owns (c : Thread nD τ) scM1_0 fullShare d) ∗ owns (c : Thread nD τ) scM1_1 fullShare (ssAt V c (n - 1) (by omega))) ∗ (∃ r, prngReg c r)) := by
  cases n with
  | zero => exact absurd rfl hz
  | succ n => rfl

/-- At any position the names of what is carried can be forgotten. -/
theorem PhiS_forget (c : Dev nD) (n : ℕ) (h : n ≤ cfg1.N) : PhiS V c n h ⊢ Pipeline.ΦA spec1 c := by
  cases n with
  | zero => exact Idealize.SL.BI.Entails.refl _
  | succ n =>
    rw [PhiS_succ, PhiA1_eq]
    iintro ⟨⟨HR0, HR1, HR2, HR3, HR4, HR5, ⟨%d, -, HS0⟩, HS1⟩, Hg⟩
    isplitl [HR0 HR1 HR2 HR3 HR4 HR5 HS0 HS1]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]
      · iexists _; iexact HS0
      iexists _; iexact HS1
    iexact Hg

/-! ## The proof data -/

/-- After the body at point `t` each input's buffer is at its block, the residual's at its tile, and at the last point
    of a row the codes' and the scales' are at the row's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => rTile (iblk1 V c 0 t) (iblk1 V c 1 t) (iblk1 V c 2 t) (iblk1 V c 3 t) (iblk1 V c 4 t)
    | ⟨7, _⟩ => yOut (iblk1 V c 5 t) (rowAt V c t) (ssAt V c t.val t.isLt)
    | ⟨8, _⟩ => ysOut (iblk1 V c 5 t) (rowAt V c t) (ssAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

theorem after1_6 (c : Dev nD) (t : Fin cfg1.N) : (dat1 V c).after 6 t = rTile (iblk1 V c 0 t) (iblk1 V c 1 t) (iblk1 V c 2 t) (iblk1 V c 3 t) (iblk1 V c 4 t) := by dsimp only [dat1]
theorem after1_7 (c : Dev nD) (t : Fin cfg1.N) : (dat1 V c).after 7 t = yOut (iblk1 V c 5 t) (rowAt V c t) (ssAt V c t.val t.isLt) := by dsimp only [dat1]
theorem after1_8 (c : Dev nD) (t : Fin cfg1.N) : (dat1 V c).after 8 t = ysOut (iblk1 V c 5 t) (rowAt V c t) (ssAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4000000 in
/-- The body at any point, by which tile of its row it is. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl]
  rw [show (dat1 V c).Φ t.succ = PhiS V c (t.val + 1) t.isLt from rfl, PhiS_succ, PhiS_castSucc V c t]
  have l0 : (dat1 V c).leavesExact 0 t = owns (c : Thread nD τ) (ms1_0 t) fullShare ((dat1 V c).after 0 t) := by
    unfold Dat.leavesExact; rw [show cfg1.idle 0 (cfg1.grid.coords t) = false from rfl]
  have l1 : (dat1 V c).leavesExact 1 t = owns (c : Thread nD τ) (ms1_1 t) fullShare ((dat1 V c).after 1 t) := by
    unfold Dat.leavesExact; rw [show cfg1.idle 1 (cfg1.grid.coords t) = false from rfl]
  have l2 : (dat1 V c).leavesExact 2 t = owns (c : Thread nD τ) (ms1_2 t) fullShare ((dat1 V c).after 2 t) := by
    unfold Dat.leavesExact; rw [show cfg1.idle 2 (cfg1.grid.coords t) = false from rfl]
  have l3 : (dat1 V c).leavesExact 3 t = owns (c : Thread nD τ) (ms1_3 t) fullShare ((dat1 V c).after 3 t) := by
    unfold Dat.leavesExact; rw [show cfg1.idle 3 (cfg1.grid.coords t) = false from rfl]
  have l4 : (dat1 V c).leavesExact 4 t = owns (c : Thread nD τ) (ms1_4 t) fullShare ((dat1 V c).after 4 t) := by
    unfold Dat.leavesExact; rw [show cfg1.idle 4 (cfg1.grid.coords t) = false from rfl]
  have l5 : (dat1 V c).leavesExact 5 t = owns (c : Thread nD τ) (ms1_5 t) fullShare ((dat1 V c).after 5 t) := by
    unfold Dat.leavesExact; rw [show cfg1.idle 5 (cfg1.grid.coords t) = false from rfl]
  have l6 : (dat1 V c).leavesExact 6 t = owns (c : Thread nD τ) (ms1_6 t) fullShare ((dat1 V c).after 6 t) := by
    unfold Dat.leavesExact; rw [show cfg1.idle 6 (cfg1.grid.coords t) = false from rfl]
  rw [l0, l1, l2, l3, l4, l5, l6, after1_0, after1_1, after1_2, after1_3, after1_4, after1_5, after1_6]
  by_cases h9 : t.val % 10 = 9
  · have h0 : ¬ t.val % 10 = 0 := by omega
    have hz : t.val ≠ 0 := fun h => h0 (by rw [h])
    have l7 : (dat1 V c).leavesExact 7 t = owns (c : Thread nD τ) (ms1_7 t) fullShare ((dat1 V c).after 7 t) := by
      unfold Dat.leavesExact; rw [Bool.eq_false_iff.mpr (fun h => (hidle7 t).mp h h9)]
    have l8 : (dat1 V c).leavesExact 8 t = owns (c : Thread nD τ) (ms1_8 t) fullShare ((dat1 V c).after 8 t) := by
      unfold Dat.leavesExact; rw [Bool.eq_false_iff.mpr (fun h => (hidle8 t).mp h h9)]
    rw [l7, l8, after1_7, after1_8, PhiS_pos V c _ _ hz]
    simp only [before1_0, before1_1, before1_2, before1_3, before1_4, before1_5]
    iintro ⟨⟨⟨HR0, HR1, HR2, HR3, HR4, HR5, ⟨%d, %hd, HS0⟩, HS1⟩, Hg⟩, Ho, ⟨%d0, H0⟩, ⟨%d1, H1⟩, ⟨%d2, H2⟩, ⟨%d3, H3⟩, ⟨%d4, H4⟩, ⟨%d5, H5⟩, ⟨%d6, H6⟩, H7, H8⟩
    icases H7 with ⟨%d7, H7⟩
    icases H8 with ⟨%d8, H8⟩
    have hrow := Row_next V c t h0 d hd
    have hfin := Row_last V c t h9 _ hrow
    have hss := ssAt_next V c t h0
    rw [← hfin, hss]
    iapply (sound_last c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t)
      (fun h => h0 ((hfirst t).mp h)) ((hnext t).mpr (by omega)) ((hlast t).mpr h9) d (ssAt V c (t.val - 1) (by have := t.isLt; omega)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HR0 HR1 HR2 HR3 HR4 HR5 HS0 HS1 Hg]
    · isplitl [HR0 HR1 HR2 HR3 HR4 HR5 HS0 HS1]
      · isplitl [HR0]; · iexact HR0
        isplitl [HR1]; · iexact HR1
        isplitl [HR2]; · iexact HR2
        isplitl [HR3]; · iexact HR3
        isplitl [HR4]; · iexact HR4
        isplitl [HR5]; · iexact HR5
        isplitl [HS0]
        · iexists _; isplitr
          swap; · iexact HS0
          ipureintro; exact hrow
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have l7 : (dat1 V c).leavesExact 7 t = iprop(∃ d, owns (c : Thread nD τ) (ms1_7 t) fullShare ((dat1 V c).before 7 t d)) :=
      (dat1 V c).leavesExact_idle 7 t ((hidle7 t).mpr h9) (by rw [Bool.eq_false_iff]; exact fun h => h9 ((flush1_7 t).mp h))
    have l8 : (dat1 V c).leavesExact 8 t = iprop(∃ d, owns (c : Thread nD τ) (ms1_8 t) fullShare ((dat1 V c).before 8 t d)) :=
      (dat1 V c).leavesExact_idle 8 t ((hidle8 t).mpr h9) (by rw [Bool.eq_false_iff]; exact fun h => h9 ((flush1_8 t).mp h))
    rw [l7, l8]
    by_cases h0 : t.val % 10 = 0
    · have hforget := PhiS_forget V c t.val (Nat.le_of_lt t.isLt)
      rw [PhiA1_eq] at hforget
      simp only [before1_0, before1_1, before1_2, before1_3, before1_4, before1_5]
      iintro ⟨HP, Ho, ⟨%d0, H0⟩, ⟨%d1, H1⟩, ⟨%d2, H2⟩, ⟨%d3, H3⟩, ⟨%d4, H4⟩, ⟨%d5, H5⟩, ⟨%d6, H6⟩, H7, H8⟩
      ihave H := hforget $$ HP
      icases H with ⟨⟨HR0, HR1, HR2, HR3, HR4, HR5, ⟨%d, HS0⟩, HS1⟩, Hg⟩
      have hrow := Row_first V c t h0 d
      rw [ssAt_first V c t h0]
      iapply (sound_first c Set.univ (grid1.coords t) _ _ _ _ _ _ _ _ _ _ _ _ _ _ _ _ _ _ _ _ _ _ (iblk1 V c 0 t) (iblk1 V c 1 t) (iblk1 V c 2 t) (iblk1 V c 3 t) (iblk1 V c 4 t)
        ((hfirst t).mpr h0) (fun h => absurd ((hnext t).mp h) (by omega)) (fun h => h9 ((hlast t).mp h)) d _)
      isplitl [H0]; · iexact H0
      isplitl [H1]; · iexact H1
      isplitl [H2]; · iexact H2
      isplitl [H3]; · iexact H3
      isplitl [H4]; · iexact H4
      isplitl [H6]; · iexists _; iexact H6
      isplitl [HS0]; · iexact HS0
      isplitl [HS1]; · iexact HS1
      iintro ⟨H0, H1, H2, H3, H4, H6, HS0, HS1⟩
      isplitl [HR0 HR1 HR2 HR3 HR4 HR5 HS0 HS1 Hg]
      · isplitl [HR0 HR1 HR2 HR3 HR4 HR5 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · iexists _; isplitr
            swap; · iexact HS0
            ipureintro; exact hrow
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hz : t.val ≠ 0 := fun h => h0 (by rw [h])
      rw [PhiS_pos V c _ _ hz]
      simp only [before1_0, before1_1, before1_2, before1_3, before1_4, before1_5]
      iintro ⟨⟨⟨HR0, HR1, HR2, HR3, HR4, HR5, ⟨%d, %hd, HS0⟩, HS1⟩, Hg⟩, Ho, ⟨%d0, H0⟩, ⟨%d1, H1⟩, ⟨%d2, H2⟩, ⟨%d3, H3⟩, ⟨%d4, H4⟩, ⟨%d5, H5⟩, ⟨%d6, H6⟩, H7, H8⟩
      have hrow := Row_next V c t h0 d hd
      rw [ssAt_next V c t h0]
      iapply (sound_mid c Set.univ (grid1.coords t) _ _ _ _ _ _ _ _ _ _ _ _ _ _ _ _ _ _ _ _ _ _ (iblk1 V c 0 t) (iblk1 V c 1 t) (iblk1 V c 2 t) (iblk1 V c 3 t) (iblk1 V c 4 t)
        (fun h => h0 ((hfirst t).mp h)) ((hnext t).mpr (by omega)) (fun h => h9 ((hlast t).mp h)) d (ssAt V c (t.val - 1) (by have := t.isLt; omega)) _)
      isplitl [H0]; · iexact H0
      isplitl [H1]; · iexact H1
      isplitl [H2]; · iexact H2
      isplitl [H3]; · iexact H3
      isplitl [H4]; · iexact H4
      isplitl [H6]; · iexists _; iexact H6
      isplitl [HS0]; · iexact HS0
      isplitl [HS1]; · iexact HS1
      iintro ⟨H0, H1, H2, H3, H4, H6, HS0, HS1⟩
      isplitl [HR0 HR1 HR2 HR3 HR4 HR5 HS0 HS1 Hg]
      · isplitl [HR0 HR1 HR2 HR3 HR4 HR5 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · iexists _; isplitr
            swap; · iexact HS0
            ipureintro; exact hrow
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point, -/
theorem hin1 (c : Dev nD) : Pipeline.ΦA spec1 c ⊢ (dat1 V c).Φ 0 := by
  rw [show (dat1 V c).Φ 0 = PhiS V c 0 (Nat.zero_le _) from rfl]
  exact Idealize.SL.BI.Entails.refl _

/-- and after the last one the invariant gives it back. -/
theorem hout1 (c : Dev nD) : (dat1 V c).Φ (Fin.last cfg1.N) ⊢ Pipeline.ΦA spec1 c := by
  rw [show (dat1 V c).Φ (Fin.last cfg1.N) = PhiS V c cfg1.N (Nat.le_refl _) from rfl]
  exact PhiS_forget V c _ _

end Cert.KernelIdeal.Run
-- ==== Proof.RunIdeal.lean ====
/- The whole run of @main: the host reshapes and the two kernel calls in order, the buffers' contents at each boundary as
   a fold from the launch, and what every final state holds. The frame claim reads the arguments off it. -/
module

public import proofs.«01_k».proof.Proof.ProjDataIdeal
public import Idealize.ShloMosaic.Lib.Pipeline.RegionsLoop
public import Idealize.ShloMosaic.Lib.Pipeline.FrameSuffix

@[expose] public section

-- membership in a rectangle of production extents (`View.cover_of_tiled`): the elaborator's structural look
-- recurses once per coordinate of the long axes
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3, main_v4]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hi := hin1 (V3 m ρ) c
    rw [show (pdats m ρ 1 c).Φ 0 = (dat1 (V3 m ρ) c).Φ 0 from rfl]
    unfold Pipeline.ΦA at hi
    iintro ⟨Hp, -, Hr⟩
    iapply hi
    isplitl [Hr]; · iexact Hr
    iexact Hp
  hout c := by
    rw [Pipeline.ownSems0_none]
    have ho := hout1 (V3 m ρ) c
    rw [show (pdats m ρ 1 c).Φ (Fin.last _) = (dat1 (V3 m ρ) c).Φ (Fin.last cfg1.N) from rfl]
    unfold Pipeline.ΦA at ho
    iintro HΦ
    ihave H := ho $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every weakly fair execution of @main terminates, nothing faulting, and every
    final state has every unscoped buffer at the last boundary's contents and every semaphore counter at zero. -/
theorem run_all : θ_run defs (onTc (τ := τ) (main (F := F))) ⟨m, fun _ => 0, ρ⟩ (fun r => (∀ c : Dev nD,
      ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, reg1]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: every final state has the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun s h => ⟨(fun c =>
      ⟨(h.1 c _ (mem_uc main_arg0 (by decide))).trans (W4_main_arg0 m ρ c), (h.1 c _ (mem_uc main_arg1 (by decide))).trans (W4_main_arg1 m ρ c), (h.1 c _ (mem_uc main_arg2 (by decide))).trans (W4_main_arg2 m ρ c), (h.1 c _ (mem_uc main_arg3 (by decide))).trans (W4_main_arg3 m ρ c), (h.1 c _ (mem_uc main_arg4 (by decide))).trans (W4_main_arg4 m ρ c)⟩), h.2⟩) (run_all m ρ)

end Cert.KernelIdeal.Run
-- ==== Proof.Scale.lean ====
/- The power-of-two scale of one token, as a plain number. The kernel finds the exponent of `t = amax/448` by comparing
   `t` with powers of two, largest step first, and writes `2^e` and `2^(-e)` down as bit patterns; the reference takes
   `e = ⌊log t / log 2⌋ + 1` and raises two to it. Over the reals the two agree for every `0 ≤ t < 2^126`. -/
module

public import Idealize.ShloMosaic.PureOps.Ideal
public import Idealize.ShloMosaic.PureOps.Ideal.Laws
public import Idealize.ShloMosaic.Lib.ValueIdx

@[expose] public section

noncomputable section

namespace Cert.Scale

open Idealize.ShloMosaic

/-- The number a pattern with only an exponent field `e` denotes, the field being written as the kernel writes it. -/
def pat (e : BitVec 32) : EReal := Ideal.ofBits .f32 (IntOp.shli .vector e 23#32)

/-- One comparison of the search: keep the step `s` on top of `e` when `t` reaches that power of two. -/
def step (t : EReal) (e s : BitVec 32) : BitVec 32 :=
  Scalar.select (Ideal.cmp .oge t (pat (IntOp.addi e s))) (IntOp.addi e s) e

/-- The search down to the steps of 8. -/
def searchHi (t : EReal) : BitVec 32 := step t (step t (step t (step t (step t 0#32 128#32) 64#32) 32#32) 16#32) 8#32

/-- The whole search: the exponent field of `t`, zero when `t` is below the smallest normal number. -/
def search (t : EReal) : BitVec 32 := step t (step t (step t (searchHi t) 4#32) 2#32) 1#32

/-- The exponent field the kernel goes on with: 126 in place of zero. -/
def field (t : EReal) : BitVec 32 := Scalar.select (IntOp.cmpi .eq (search t) 0#32) 126#32 (search t)

/-- The kernel's scale. -/
def kScale (t : EReal) : EReal := pat (IntOp.addi (field t) 1#32)

/-- The kernel's inverse scale. -/
def kInv (t : EReal) : EReal := pat (IntOp.subi 253#32 (field t))

/-- The reference's exponent. -/
def refE (t : EReal) : EReal :=
  Scalar.select (Ideal.cmp .olt t (Ideal.ofBits .f32 0x00800000#32)) (Ideal.ofBits .f32 0x00000000#32)
    (Ideal.liftRound Int.floor (Ideal.div (Ideal.log t) (Ideal.log (Ideal.ofBits .f32 0x40000000#32)))
      + Ideal.ofBits .f32 0x3F800000#32)

/-- The reference's scale. -/
def scale (t : EReal) : EReal := Ideal.exp2 (refE t)

/-- The reference's inverse scale. -/
def inv (t : EReal) : EReal := Ideal.exp2 (Ideal.ofBits .f32 0x00000000#32 - refE t)

/-! ## What a pattern denotes -/

theorem fields : ∀ e : Fin 256,
    ((IntOp.shli .vector (BitVec.ofNat 32 e.val) 23#32).extractLsb' 31 1 == 1#1) = false
    ∧ ((IntOp.shli .vector (BitVec.ofNat 32 e.val) 23#32).extractLsb' 23 8).toNat = e.val
    ∧ ((IntOp.shli .vector (BitVec.ofNat 32 e.val) 23#32).extractLsb' 0 23).toNat = 0 := by decide +kernel

theorem ieee_eq (b : BitVec 32) (e : ℕ) (h1 : (b.extractLsb' 31 1 == 1#1) = false) (h2 : (b.extractLsb' 23 8).toNat = e)
    (h3 : (b.extractLsb' 0 23).toNat = 0) :
    Ideal.ieee 8 23 b = if e = 255 then ⊤ else if e = 0 then 0 else (((2 : ℝ) ^ ((e : ℤ) - 127) : ℝ) : EReal) := by
  unfold Ideal.ieee
  simp only [Nat.reduceAdd, h1, h2, h3, Nat.reducePow, Nat.reduceSub]
  by_cases h255 : e = 255
  · rw [if_pos h255, if_pos h255]; simp
  by_cases h0 : e = 0
  · rw [if_neg h255, if_pos h0, if_neg h255, if_pos h0]; simp
  rw [if_neg h255, if_neg h0, if_neg h255, if_neg h0]
  congr 1
  have : ((2 : ℝ) ^ ((e : ℤ) - 127)) = 2 ^ (23 : ℤ) * 2 ^ ((e : ℤ) - 127 - 23) := by
    rw [← zpow_add₀ (by norm_num : (2 : ℝ) ≠ 0)]; congr 1; ring
  rw [this]
  norm_num

theorem pat_eq (e : ℕ) (h : e < 256) : pat (BitVec.ofNat 32 e)
    = if e = 255 then ⊤ else if e = 0 then 0 else (((2 : ℝ) ^ ((e : ℤ) - 127) : ℝ) : EReal) := by
  obtain ⟨h1, h2, h3⟩ := fields ⟨e, h⟩
  exact ieee_eq _ e h1 h2 h3

theorem pat_mid (e : ℕ) (h : e < 255) (h0 : e ≠ 0) : pat (BitVec.ofNat 32 e) = (((2 : ℝ) ^ ((e : ℤ) - 127) : ℝ) : EReal) := by
  rw [pat_eq e (by omega), if_neg (by omega), if_neg h0]

theorem bits_one : Ideal.ofBits .f32 0x3F800000#32 = ((1 : ℝ) : EReal) := by
  have h := pat_mid 127 (by omega) (by omega)
  rw [show pat (BitVec.ofNat 32 127) = Ideal.ofBits .f32 0x3F800000#32 from congrArg (Ideal.ofBits .f32) (by decide)] at h
  rw [h]; norm_num

theorem bits_two : Ideal.ofBits .f32 0x40000000#32 = ((2 : ℝ) : EReal) := by
  have h := pat_mid 128 (by omega) (by omega)
  rw [show pat (BitVec.ofNat 32 128) = Ideal.ofBits .f32 0x40000000#32 from congrArg (Ideal.ofBits .f32) (by decide)] at h
  rw [h]; norm_num

theorem bits_tiny : Ideal.ofBits .f32 0x00800000#32 = (((2 : ℝ) ^ (-126 : ℤ) : ℝ) : EReal) := by
  have h := pat_mid 1 (by omega) (by omega)
  rw [show pat (BitVec.ofNat 32 1) = Ideal.ofBits .f32 0x00800000#32 from congrArg (Ideal.ofBits .f32) (by decide)] at h
  rw [h]; norm_num

/-! ## The search -/

/-- The power of two the field `n` stands for, infinite from 255 on. -/
def bound (n : ℕ) : EReal := if 255 ≤ n then ⊤ else pat (BitVec.ofNat 32 n)

/-- `t` lies between the powers of two of `a` and of `a + d`. -/
def Between (t : EReal) (e : BitVec 32) (d : ℕ) : Prop :=
  ∃ a : ℕ, e = BitVec.ofNat 32 a ∧ a + d ≤ 256 ∧ a < 255 ∧ pat (BitVec.ofNat 32 a) ≤ t ∧ t < bound (a + d)

theorem between_step (t : EReal) (e : BitVec 32) (s : ℕ) (hs : 0 < s) (h : Between t e (s + s)) :
    Between t (step t e (BitVec.ofNat 32 s)) s := by
  obtain ⟨a, rfl, h1, h1', h2, h3⟩ := h
  have htop : t < ⊤ := lt_of_lt_of_le h3 le_top
  have ha : IntOp.addi (BitVec.ofNat 32 a) (BitVec.ofNat 32 s) = BitVec.ofNat 32 (a + s) := by
    show BitVec.ofNat 32 a + BitVec.ofNat 32 s = _
    rw [BitVec.ofNat_add]
  unfold step
  rw [ha]
  by_cases hc : pat (BitVec.ofNat 32 (a + s)) ≤ t
  · have h255 : a + s ≠ 255 := by
      intro h
      rw [h, pat_eq 255 (by omega), if_pos rfl] at hc
      exact absurd htop (not_lt.mpr hc)
    have : Ideal.cmp .oge t (pat (BitVec.ofNat 32 (a + s))) = 1#1 := by simp [Ideal.cmp, hc]
    rw [this, ValueIdx.select_one]
    refine ⟨a + s, rfl, by omega, by omega, hc, ?_⟩
    rw [Nat.add_assoc]; exact h3
  · have : Ideal.cmp .oge t (pat (BitVec.ofNat 32 (a + s))) = 0#1 := by simp [Ideal.cmp, hc]
    rw [this, ValueIdx.select_zero]
    refine ⟨a, rfl, by omega, h1', h2, ?_⟩
    unfold bound
    split
    · exact htop
    · exact not_le.mp hc

theorem between_search (t : EReal) (h0 : 0 ≤ t) (h1 : t < ⊤) : Between t (search t) 1 := by
  have hz : Between t 0#32 (128 + 128) := by
    refine ⟨0, rfl, by omega, by omega, ?_, ?_⟩
    · rw [pat_eq 0 (by omega)]; simpa using h0
    · simpa [bound] using h1
  exact between_step t _ 1 (by omega) (between_step t _ 2 (by omega) (between_step t _ 4 (by omega)
    (between_step t _ 8 (by omega) (between_step t _ 16 (by omega) (between_step t _ 32 (by omega)
    (between_step t _ 64 (by omega) (between_step t _ 128 (by omega) hz)))))))

/-! ## The two scales agree -/

theorem floor_log (t : ℝ) (n : ℤ) (h1 : (2 : ℝ) ^ n ≤ t) (h2 : t < (2 : ℝ) ^ (n + 1)) :
    ⌊Real.log t * (1 / Real.log 2)⌋ = n := by
  have hl : 0 < Real.log 2 := Real.log_pos (by norm_num)
  have ht : 0 < t := lt_of_lt_of_le (by positivity) h1
  rw [Int.floor_eq_iff, mul_one_div]
  constructor
  · rw [le_div_iff₀ hl, ← Real.log_zpow]
    exact Real.log_le_log (by positivity) h1
  · rw [div_lt_iff₀ hl]
    have := Real.log_lt_log ht h2
    rw [Real.log_zpow] at this
    push_cast at this
    exact this

theorem rpow_int (n : ℤ) : Real.rpow 2 (n : ℝ) = (2 : ℝ) ^ n := Real.rpow_intCast 2 n

theorem both (t : EReal) (h0 : 0 ≤ t) (h1 : t < (((2 : ℝ) ^ (126 : ℤ) : ℝ) : EReal)) :
    kScale t = scale t ∧ kInv t = inv t := by
  obtain ⟨a, ha, hb, hc, h2, h3⟩ := between_search t h0 (lt_of_lt_of_le h1 le_top)
  have hz : Ideal.ofBits .f32 0x00000000#32 = (0 : EReal) := Ideal.ofBits_zero_f32
  unfold kScale kInv scale inv field refE
  rw [ha, bits_tiny, bits_two, bits_one, hz]
  by_cases hz' : a = 0
  · subst hz'
    have e : Scalar.select (IntOp.cmpi .eq (BitVec.ofNat 32 0) 0#32) 126#32 (BitVec.ofNat 32 0) = BitVec.ofNat 32 126 := by decide
    have hlt : t < (((2 : ℝ) ^ (-126 : ℤ) : ℝ) : EReal) := by
      have := h3
      unfold bound at this
      rw [if_neg (by omega), pat_mid _ (by omega) (by omega)] at this
      simpa using this
    have hc' : Ideal.cmp .olt t (((2 : ℝ) ^ (-126 : ℤ) : ℝ) : EReal) = 1#1 := by
      simp only [Ideal.cmp, decide_eq_true hlt]; rfl
    have e1 : IntOp.addi (BitVec.ofNat 32 126) 1#32 = BitVec.ofNat 32 127 := by decide
    have e2 : IntOp.subi 253#32 (BitVec.ofNat 32 126) = BitVec.ofNat 32 127 := by decide
    have e3 : pat (BitVec.ofNat 32 127) = ((1 : ℝ) : EReal) := by
      rw [pat_mid 127 (by omega) (by omega)]; norm_num
    have e4 : Ideal.exp2 0 = ((1 : ℝ) : EReal) := by
      rw [← EReal.coe_zero, Ideal.exp2_coe]; congr 1; exact Real.rpow_zero 2
    rw [e, hc', ValueIdx.select_one, e1, e2, e3, sub_zero, e4]
    exact ⟨rfl, rfl⟩
  · have hne : Scalar.select (IntOp.cmpi .eq (BitVec.ofNat 32 a) 0#32) 126#32 (BitVec.ofNat 32 a) = BitVec.ofNat 32 a := by
      have : IntOp.cmpi .eq (BitVec.ofNat 32 a) 0#32 = 0#1 := by
        have hne : BitVec.ofNat 32 a ≠ 0#32 := by
          intro h
          have := congrArg BitVec.toNat h
          simp at this
          omega
        simp only [IntOp.cmpi, beq_eq_false_iff_ne.mpr hne]; rfl
      rw [this, ValueIdx.select_zero]
    rw [pat_mid a hc hz'] at h2
    -- `t` is a real number between two neighbouring powers of two
    obtain ⟨r, rfl⟩ : ∃ r : ℝ, t = (r : EReal) := by
      induction t using EReal.rec with
      | bot => exact absurd h0 (by simp)
      | coe r => exact ⟨r, rfl⟩
      | top => exact absurd h1 (by simp)
    have h2' : (2 : ℝ) ^ ((a : ℤ) - 127) ≤ r := by exact_mod_cast h2
    have h1' : r < (2 : ℝ) ^ (126 : ℤ) := by exact_mod_cast h1
    have ha252 : a ≤ 252 := by
      have := lt_of_le_of_lt h2' h1'
      rw [zpow_lt_zpow_iff_right₀ (by norm_num)] at this
      omega
    have h3' : r < (2 : ℝ) ^ ((a : ℤ) - 127 + 1) := by
      unfold bound at h3
      rw [if_neg (by omega), pat_mid _ (by omega) (by omega)] at h3
      have : r < (2 : ℝ) ^ (((a + 1 : ℕ) : ℤ) - 127) := by exact_mod_cast h3
      rwa [show ((a + 1 : ℕ) : ℤ) - 127 = (a : ℤ) - 127 + 1 by push_cast; ring] at this
    have hpos : 0 < r := lt_of_lt_of_le (by positivity) h2'
    have hc' : Ideal.cmp .olt (r : EReal) (((2 : ℝ) ^ (-126 : ℤ) : ℝ) : EReal) = 0#1 := by
      have : ¬ ((r : EReal) < (((2 : ℝ) ^ (-126 : ℤ) : ℝ) : EReal)) := by
        rw [not_lt, EReal.coe_le_coe_iff]
        refine le_trans ?_ h2'
        rw [zpow_le_zpow_iff_right₀ (by norm_num)]
        omega
      simp only [Ideal.cmp, decide_eq_false this]; rfl
    have hl : Real.log 2 ≠ 0 := (Real.log_pos (by norm_num)).ne'
    have hE : Ideal.liftRound Int.floor (Ideal.div (Ideal.log (r : EReal)) (Ideal.log ((2 : ℝ) : EReal))) + ((1 : ℝ) : EReal)
        = ((((a : ℤ) - 126 : ℤ) : ℝ) : EReal) := by
      rw [Ideal.log_coe, Ideal.log_coe, if_neg (not_le.mpr hpos), if_neg (by norm_num), Ideal.div_coe hl, ← EReal.coe_mul]
      show (((⌊Real.log r * (1 / Real.log 2)⌋ : ℤ) : ℝ) : EReal) + _ = _
      rw [floor_log r _ h2' h3', ← EReal.coe_add]
      congr 1; push_cast; ring
    have e1 : IntOp.addi (BitVec.ofNat 32 a) 1#32 = BitVec.ofNat 32 (a + 1) := by
      show BitVec.ofNat 32 a + BitVec.ofNat 32 1 = _
      rw [BitVec.ofNat_add]
    have e2 : IntOp.subi 253#32 (BitVec.ofNat 32 a) = BitVec.ofNat 32 (253 - a) := by
      show 253#32 - BitVec.ofNat 32 a = _
      apply BitVec.eq_of_toNat_eq
      rw [BitVec.toNat_sub]
      simp only [BitVec.toNat_ofNat]
      omega
    rw [hne, hc', ValueIdx.select_zero, hE, e1, e2, pat_mid _ (by omega) (by omega), pat_mid _ (by omega) (by omega),
      Ideal.exp2_coe, zero_sub, ← EReal.coe_neg, Ideal.exp2_coe, ← Int.cast_neg]
    have r1 := rpow_int ((a : ℤ) - 126)
    have r2 := rpow_int (-((a : ℤ) - 126))
    constructor
    · refine congrArg _ (Eq.trans ?_ r1.symm); congr 1; push_cast; ring
    · refine congrArg _ (Eq.trans ?_ r2.symm); congr 1; omega

theorem kScale_eq (t : EReal) (h0 : 0 ≤ t) (h1 : t < (((2 : ℝ) ^ (126 : ℤ) : ℝ) : EReal)) : kScale t = scale t := (both t h0 h1).1
theorem kInv_eq (t : EReal) (h0 : 0 ≤ t) (h1 : t < (((2 : ℝ) ^ (126 : ℤ) : ℝ) : EReal)) : kInv t = inv t := (both t h0 h1).2

end Cert.Scale

end
-- ==== Proof.Rows.lean ====
/- One token's row as a function of its column: its largest magnitude, its fp8 codes and its normalised values; and the
   vector operations the two programs build those from (row reductions, column and row broadcasts), read at one index. -/
module

public import proofs.«01_k».proof.Proof.Scale
public import Idealize.ShloMosaic.Lib.Pipeline.Value
public import Mathlib.Algebra.BigOperators.Fin

@[expose] public section

noncomputable section

namespace Cert.Rows

open Idealize.ShloMosaic Idealize.ShloMosaic.ValueIdx
open scoped BigOperators

/-! ## A row -/

/-- The magnitude of a number. -/
def mag (x : EReal) : EReal := max x (-x)

/-- The largest magnitude of a row, times the constant the programs write for 1/448. -/
def ratio {n : ℕ} (f : Fin n → EReal) : EReal := Finset.univ.sup (fun k => mag (f k)) * Ideal.ofBits .f32 0x3B124925#32

/-- A number clipped to the range of the fp8 codes. -/
def clip (x : EReal) : EReal := min (Ideal.ofBits .f32 0x43E00000#32) (max (Ideal.ofBits .f32 0xC3E00000#32) x)

/-- The reference's code of a row at a column. -/
def code {n : ℕ} (f : Fin n → EReal) (k : Fin n) : EReal := clip (f k * Scale.inv (ratio f))

/-- The kernel's. -/
def kCode {n : ℕ} (f : Fin n → EReal) (k : Fin n) : EReal := clip (f k * Scale.kInv (ratio f))

/-- The reciprocal root mean square from the sum of the squares of a row of 5120. -/
def rms (s : EReal) : EReal := Ideal.rsqrt (Ideal.div s (Ideal.ofBits .f32 0x45A00000#32) + Ideal.ofBits .f32 0x358637BD#32)

/-- The normalised row. -/
def normed (r g : Fin 5120 → EReal) (k : Fin 5120) : EReal := r k * rms (∑ j, r j * r j) * g k

/-! ## Vector operations at an index -/

variable {a b : ℕ} {α : Type}

theorem castCol (v : (⟨1, ![a]⟩ : Shape).Idx → α) (h : (⟨1, ![a]⟩ : Shape).ShapeCasts ⟨2, ![a, 1]⟩) (i : Fin a) (z : Fin 1) :
    shapeCast ⟨2, ![a, 1]⟩ v h (ix2 i z) = v (ix1 i) := by
  refine shapeCast_apply v h _ _ ?_
  rw [Shape.rowMajor_val_one, Shape.rowMajor_val_two]
  have : z.val = 0 := by omega
  show i.val = i.val * 1 + z.val
  omega

theorem castDrop (v : (⟨3, ![1, a, b]⟩ : Shape).Idx → α) (h : (⟨3, ![1, a, b]⟩ : Shape).ShapeCasts ⟨2, ![a, b]⟩) (i : Fin a) (j : Fin b) :
    shapeCast ⟨2, ![a, b]⟩ v h (ix2 i j) = v (ix3 0 i j) := by
  refine (shapeCast_dropUnit_apply ![a, b] v h (ix2 i j)).trans (congrArg v (funext fun c => ?_))
  fin_cases c <;> rfl

theorem castAdd (v : (⟨2, ![a, b]⟩ : Shape).Idx → α) (h : (⟨2, ![a, b]⟩ : Shape).ShapeCasts ⟨3, ![1, a, b]⟩) (z : Fin 1) (i : Fin a) (j : Fin b) :
    shapeCast ⟨3, ![1, a, b]⟩ v h (ix3 z i j) = v (ix2 i j) := by
  refine (shapeCast_addUnit_apply ![a, b] v h (ix3 z i j)).trans (congrArg v (funext fun c => ?_))
  fin_cases c <;> rfl

theorem bcastCol (v : (⟨2, ![a, 1]⟩ : Shape).Idx → α) (h : (⟨2, ![a, 1]⟩ : Shape).Broadcasts ⟨2, ![a, b]⟩) (i : Fin a) (j : Fin b) :
    broadcastTo ⟨2, ![a, b]⟩ v h (ix2 i j) = v (ix2 i 0) := by
  refine broadcastTo_apply v h _ _ fun c => ?_
  fin_cases c
  · show i.val = if a = 1 then 0 else i.val
    split
    · have := i.isLt; omega
    · rfl
  · rfl

theorem bcastRow (v : (⟨2, ![1, b]⟩ : Shape).Idx → α) (h : (⟨2, ![1, b]⟩ : Shape).Broadcasts ⟨2, ![a, b]⟩) (i : Fin a) (j : Fin b) :
    broadcastTo ⟨2, ![a, b]⟩ v h (ix2 i j) = v (ix2 0 j) := by
  refine broadcastTo_apply v h _ _ fun c => ?_
  fin_cases c
  · rfl
  · show j.val = if b = 1 then 0 else j.val
    split
    · have := j.isLt; omega
    · rfl

theorem lift_row (h : (⟨2, ![a, b]⟩ : Shape).Reduces [1] ⟨1, ![a]⟩) (i : Fin a) (k : Fin ((⟨2, ![a, b]⟩ : Shape).size 1)) :
    h.lift (ix1 i) k = ix2 i (⟨k.val, k.isLt⟩ : Fin b) := by
  funext c; apply Fin.ext
  fin_cases c <;> rfl

theorem rowMax {φ : FTy} (v : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (hb : Ideal.ofBits φ acc = ⊥) (i : Fin a) :
    multiReduction .maximumf [1] ⟨1, ![a]⟩ v acc h hφ hacc (ix1 i) = Finset.univ.sup (fun k : Fin b => v (ix2 i k)) := by
  rw [Ideal.multiReduction_maximumf_single]
  have hf : (v ∘ h.lift (ix1 i)) = fun k : Fin b => v (ix2 i k) := funext fun k => congrArg v (lift_row h i k)
  have e : FloatOps.ofBits (F := Ideal) φ acc = (⊥ : EReal) := hb
  rw [e]
  exact congrArg (fun f => Finset.fold max (⊥ : EReal) f (Finset.univ : Finset (Fin b))) hf

theorem rowSum {φ : FTy} (v : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (i : Fin a) :
    multiReduction .add [1] ⟨1, ![a]⟩ v acc h hφ hacc (ix1 i) = ∑ k : Fin b, v (ix2 i k) := by
  rw [Ideal.multiReduction_add_single]
  exact Finset.sum_congr rfl fun k _ => congrArg v (lift_row h i k)

theorem ninf_f32 : Ideal.ofBits .f32 0xFF800000#32 = (⊥ : EReal) := by simp [Ideal.ofBits, Ideal.ieee]
theorem ninf_bf16 : Ideal.ofBits .bf16 0xFF80#16 = (⊥ : EReal) := by simp [Ideal.ofBits, Ideal.ieee]

/-- A plain matrix product into a zero accumulator, entry by entry. -/
theorem dot_apply {k : ℕ} {φ₁ φ₂ : FTy} (D : DotDims ⟨2, ![a, k]⟩ ⟨2, ![k, b]⟩ ⟨2, ![a, b]⟩) (hr : D.contr.rank = 1)
    (hs : D.contr.size ⟨0, by omega⟩ = k)
    (hl : ∀ (j : (⟨2, ![a, b]⟩ : Shape).Idx) (q : D.contr.Idx), (D.lhsIdx j q 0).val = (j 0).val ∧ (D.lhsIdx j q 1).val = (q ⟨0, by omega⟩).val)
    (hR : ∀ (j : (⟨2, ![a, b]⟩ : Shape).Idx) (q : D.contr.Idx), (D.rhsIdx j q 0).val = (q ⟨0, by omega⟩).val ∧ (D.rhsIdx j q 1).val = (j 1).val)
    (prec : Option ContractPrecision)
    (L : FVec Ideal ⟨2, ![a, k]⟩ φ₁) (R : FVec Ideal ⟨2, ![k, b]⟩ φ₂) (i : Fin a) (j : Fin b) :
    FloatOps.matmul D prec L R (constant ⟨2, ![a, b]⟩ .f32 0x00000000#32) (ix2 i j) = ∑ q : Fin k, L (ix2 i q) * R (ix2 q j) := by
  rw [Ideal.matmul_constant_zero_apply, ← Equiv.sum_comp (contrEquiv1 D k hr hs).symm]
  refine Finset.sum_congr rfl fun q _ => ?_
  have hq := contrEquiv1_symm_val D k hr hs q
  obtain ⟨l0, l1⟩ := hl (ix2 i j) ((contrEquiv1 D k hr hs).symm q)
  obtain ⟨r0, r1⟩ := hR (ix2 i j) ((contrEquiv1 D k hr hs).symm q)
  have el : D.lhsIdx (ix2 i j) ((contrEquiv1 D k hr hs).symm q) = ix2 i q := Shape.idx_ext₂ l0 (l1.trans hq)
  have er : D.rhsIdx (ix2 i j) ((contrEquiv1 D k hr hs).symm q) = ix2 q j := Shape.idx_ext₂ (r0.trans hq) r1
  rw [el, er]

/-! ## Ten slabs of 512 columns make a row of 5120 -/

/-- The column of slab `s` at position `j`. -/
def col (s : Fin 10) (j : Fin 512) : Fin 5120 := ⟨s.val * 512 + j.val, by omega⟩

theorem sum_slabs (f : Fin 5120 → EReal) : ∑ k, f k = ∑ s : Fin 10, ∑ j : Fin 512, f (col s j) := by
  rw [← Fintype.sum_prod_type']
  refine (Fintype.sum_equiv (finProdFinEquiv (m := 10) (n := 512)) _ _ fun p => ?_).symm
  refine congrArg f (Fin.ext ?_)
  show p.1.val * 512 + p.2.val = p.2.val + 512 * p.1.val
  omega

theorem sup_slabs (f : Fin 5120 → EReal) : Finset.univ.sup f = Finset.univ.sup (fun s : Fin 10 => Finset.univ.sup fun j : Fin 512 => f (col s j)) := by
  apply le_antisymm
  · refine Finset.sup_le fun k _ => ?_
    have hk := k.isLt
    have e : k = col ⟨k.val / 512, by omega⟩ ⟨k.val % 512, by omega⟩ := Fin.ext (by show k.val = k.val / 512 * 512 + k.val % 512; omega)
    rw [e]
    refine le_trans ?_ (Finset.le_sup (f := fun s : Fin 10 => Finset.univ.sup fun j : Fin 512 => f (col s j)) (Finset.mem_univ (⟨k.val / 512, by omega⟩ : Fin 10)))
    exact Finset.le_sup (f := fun j : Fin 512 => f (col ⟨k.val / 512, by omega⟩ j)) (Finset.mem_univ (⟨k.val % 512, by omega⟩ : Fin 512))
  · exact Finset.sup_le fun s _ => Finset.sup_le fun j _ => Finset.le_sup (f := f) (Finset.mem_univ _)

theorem mag_nonneg (x : EReal) : 0 ≤ mag x := by
  unfold mag
  rcases le_total 0 x with h | h
  · exact le_max_of_le_left h
  · exact le_max_of_le_right (by rwa [EReal.le_neg, neg_zero])

/-- The kernel's running maximum over the ten slabs, started from zero. -/
theorem max_slabs (m : Fin 10 → EReal) (h : 0 ≤ m 0) :
    max (max (max (max (max (max (max (max (max (max 0 (m 0)) (m 1)) (m 2)) (m 3)) (m 4)) (m 5)) (m 6)) (m 7)) (m 8)) (m 9)
      = Finset.univ.sup m := by
  rw [max_eq_right h]
  apply le_antisymm
  · simp only [max_le_iff]
    refine ⟨⟨⟨⟨⟨⟨⟨⟨⟨?_, ?_⟩, ?_⟩, ?_⟩, ?_⟩, ?_⟩, ?_⟩, ?_⟩, ?_⟩, ?_⟩ <;> exact Finset.le_sup (f := m) (Finset.mem_univ _)
  · refine Finset.sup_le fun s _ => ?_
    fin_cases s <;> simp

end Cert.Rows

end
-- ==== Proof.Lanes.lean ====
/- The pointwise vector operations of the two programs at an index, over the extended reals. -/
module

public import proofs.«01_k».proof.Proof.Rows

@[expose] public section

noncomputable section

namespace Cert.Lanes

open Idealize.ShloMosaic Idealize.ShloMosaic.ValueIdx Cert.Rows

variable {s : Shape} {φ ψ : FTy}

theorem exp2_at (v : FVec Ideal s φ) (i : s.Idx) : exp2 v i = Ideal.exp2 (v i) := rfl
theorem rsqrt_at (v : FVec Ideal s φ) (i : s.Idx) : rsqrt v i = Ideal.rsqrt (v i) := rfl
theorem absf_at (v : FVec Ideal s φ) (i : s.Idx) : absf v i = mag (v i) := rfl
theorem addf_at (v w : FVec Ideal s φ) (i : s.Idx) : addf v w i = (v i + w i : EReal) := rfl
theorem subf_at (v w : FVec Ideal s φ) (i : s.Idx) : subf v w i = (v i - w i : EReal) := rfl
theorem mulf_at (v w : FVec Ideal s φ) (i : s.Idx) : mulf v w i = (v i * w i : EReal) := rfl
theorem divf_at (v w : FVec Ideal s φ) (i : s.Idx) : divf v w i = Ideal.div (v i) (w i) := rfl
theorem maximumf_at (v w : FVec Ideal s φ) (i : s.Idx) : maximumf v w i = (max (v i) (w i) : EReal) := rfl
theorem minimumf_at (v w : FVec Ideal s φ) (i : s.Idx) : minimumf v w i = (min (v i) (w i) : EReal) := rfl
theorem broadcast_at {α : Type} (c : α) (i : s.Idx) : broadcast s c i = c := rfl
theorem ofBits_eq (w : BitVec φ.bits) : (Scalar.ofBits φ w : Ideal φ) = Ideal.ofBits φ w := rfl
theorem extf_at (v : FVec Ideal s φ) (h : φ.bits < ψ.bits) (i : s.Idx) : extf ψ v h i = v i := rfl
theorem truncf_at (v : FVec Ideal s φ) (h : ψ.bits < φ.bits) (i : s.Idx) : truncf ψ v h i = v i := rfl

theorem addi_at (v w : IVec s 32) (i : s.Idx) : addi v w i = IntOp.addi (v i) (w i) := rfl
theorem subi_at (v w : IVec s 32) (i : s.Idx) : subi v w i = IntOp.subi (v i) (w i) := rfl

/-- The field the kernel goes on with, lane by lane: 126 in place of zero. -/
theorem field_at (e : IVec s 32) (i : s.Idx) :
    select (cmpi .eq e (broadcast s 0#32)) (broadcast s 126#32) e i = Scalar.select (IntOp.cmpi .eq (e i) 0#32) 126#32 (e i) := rfl

/-- The reference's exponent, lane by lane. -/
theorem refE_at (t : FVec Ideal s .f32) (i : s.Idx) :
    select (cmpf .olt t (broadcast s (Scalar.ofBits .f32 0x00800000#32))) (broadcast s (Scalar.ofBits .f32 0x00000000#32))
      (addf (floor (divf (log t) (log (broadcast s (Scalar.ofBits .f32 0x40000000#32))))) (broadcast s (Scalar.ofBits .f32 0x3F800000#32))) i
      = Scale.refE (t i) := rfl

/-- A number with the clip the programs write. -/
theorem clip_at (v : FVec Ideal s .f32) (i : s.Idx) :
    minimumf (broadcast s (Scalar.ofBits .f32 0x43E00000#32)) (maximumf (broadcast s (Scalar.ofBits .f32 0xC3E00000#32)) v) i = clip (v i) := rfl

/-- A word read as a float, lane by lane. -/
theorem pat_at (e : IVec s 32) (i : s.Idx) :
    (bitcastToFloat .f32 (shli e (broadcast s 23#32)) : FVec Ideal s .f32) i = Scale.pat (e i) := rfl

/-- One step of the kernel's exponent search, lane by lane. -/
theorem step_at (t : FVec Ideal s .f32) (e : IVec s 32) (k : BitVec 32) (i : s.Idx) :
    select (cmpf .oge t (bitcastToFloat .f32 (shli (addi e (broadcast s k)) (broadcast s 23#32)))) (addi e (broadcast s k)) e i
      = Scale.step (t i) (e i) k := rfl

end Cert.Lanes

end
-- ==== Proof.QuantRowsIdeal.lean ====
/- What the kernel's first call computes of a block of 64 tokens, entry by entry. -/
module

public import proofs.«01_k».proof.Proof.Lanes
public import proofs.«01_k».proof.Proof.QuantIdeal

@[expose] public section

noncomputable section

namespace Cert.QuantRows

open Idealize.ShloMosaic Idealize.ShloMosaic.ValueIdx Cert.Rows Cert.Lanes Cert.KernelIdeal Cert.KernelIdeal.Gen
open scoped BigOperators

theorem id_apply (X : FVec Ideal S64x15744 .bf16) : k0_pay2 (F := Ideal) X = X := by
  unfold k0_pay2
  rw [shapeCast_self]

theorem ratio_apply (X : FVec Ideal S64x15744 .bf16) (i : Fin 64) :
    k0_pay3 (F := Ideal) X (ix2 i 0) = ratio fun k => X (ix2 i k) := by
  unfold k0_pay3
  dsimp only
  rw [mulf_at, broadcast_at, ofBits_eq, extf_at, castCol]
  refine (congrArg (fun m => m * Ideal.ofBits .f32 0x3B124925#32) (rowMax _ _ _ _ _ ninf_bf16 i)).trans ?_
  simp only [absf_at, id_apply]
  unfold ratio
  with_reducible rfl

theorem hi_apply (X : FVec Ideal S64x15744 .bf16) (i : Fin 64) :
    k0_pay4 (F := Ideal) X (ix2 i 0) = Scale.searchHi (ratio fun k => X (ix2 i k)) := by
  unfold k0_pay4
  rw [step_at, step_at, step_at, step_at, step_at, broadcast_at, ratio_apply]
  unfold Scale.searchHi
  with_reducible rfl

variable (t : FVec Ideal S64x1 .f32) (e : IVec S64x1 32) (i : Fin 64)

theorem field_apply (h : e (ix2 i 0) = Scale.searchHi (t (ix2 i 0))) : k0_pay5 (F := Ideal) t e (ix2 i 0) = Scale.field (t (ix2 i 0)) := by
  unfold k0_pay5
  refine (field_at _ _).trans ?_
  rw [step_at, step_at, step_at, h]
  unfold Scale.field Scale.search
  with_reducible rfl

theorem scale_apply (h : e (ix2 i 0) = Scale.searchHi (t (ix2 i 0))) : k0_pay6 (F := Ideal) t e (ix2 i 0) = Scale.kScale (t (ix2 i 0)) := by
  unfold k0_pay6
  rw [pat_at, addi_at, broadcast_at, field_apply _ _ _ h]
  unfold Scale.kScale
  with_reducible rfl

theorem codes_apply (X : FVec Ideal S64x15744 .bf16) (k : Fin 15744) (h : e (ix2 i 0) = Scale.searchHi (t (ix2 i 0))) :
    k0_pay7 (F := Ideal) X t e (ix2 i k) = clip (X (ix2 i k) * Scale.kInv (t (ix2 i 0))) := by
  unfold k0_pay7
  refine (clip_at _ _).trans ?_
  rw [mulf_at, extf_at, bcastCol, pat_at, subi_at, broadcast_at, field_apply _ _ _ h]
  unfold Scale.kInv
  with_reducible rfl

end Cert.QuantRows

namespace Cert.KernelIdeal.Run

open Idealize.ShloMosaic Idealize.ShloMosaic.ValueIdx Cert.Rows Cert.Lanes Cert.KernelIdeal.Gen

theorem out0_1_apply (X : Vec Ideal S64x15744 .bf16) (i : Fin 64) (k : Fin 15744) :
    out0_1 (F := Ideal) X (ix2 i k) = kCode (fun k => X (ix2 i k)) k := by
  have hz : (![0, 0] : Fin S64x15744.rank → Nat) = fun _ => 0 := funext fun a => by fin_cases a <;> rfl
  unfold out0_1 k0_pay8 k0_pay9
  rw [View.canon_unit_zero hz, View.ld_unit_zero hz, QuantRows.id_apply]
  unfold k0_pay1
  rw [truncf_at]
  refine (QuantRows.codes_apply _ _ i _ k ?_).trans ?_
  · rw [QuantRows.hi_apply, QuantRows.ratio_apply]
  · rw [QuantRows.ratio_apply]
    unfold kCode
    with_reducible rfl

theorem out0_2_apply (X : Vec Ideal S64x15744 .bf16) (i : Fin 64) :
    out0_2 (F := Ideal) X (ix2 i 0) = Scale.kScale (ratio fun k => X (ix2 i k)) := by
  have hz : (![0, 0] : Fin S64x15744.rank → Nat) = fun _ => 0 := funext fun a => by fin_cases a <;> rfl
  have hz1 : (![0, 0] : Fin S64x1.rank → Nat) = fun _ => 0 := funext fun a => by fin_cases a <;> rfl
  unfold out0_2 k0_pay8 k0_pay9
  rw [View.canon_unit_zero hz1, View.ld_unit_zero hz]
  refine (QuantRows.scale_apply _ _ i ?_).trans ?_
  · rw [QuantRows.hi_apply, QuantRows.ratio_apply]
  · rw [QuantRows.ratio_apply]

end Cert.KernelIdeal.Run

end
-- ==== Proof.QuantArrayIdeal.lean ====
/- The two arrays the kernel's first call leaves, entry by entry: the codes and the scale of every token. -/
module

public import proofs.«01_k».proof.Proof.QuantRowsIdeal

@[expose] public section

set_option maxRecDepth 16384

noncomputable section

namespace Cert.KernelIdeal.Run

open Idealize.ShloMosaic Idealize.ShloMosaic.TcCoe Idealize.ShloMosaic.ValueIdx Cert.Rows Cert.KernelIdeal.Gen
open Idealize.ShloMosaic.Pipeline (Dat Cfg Window)

variable (V : (c : Dev nD) → (b : Ref sig .tc) → Buf (Elt Ideal) ((c : Thread nD τ).loc b)) (c : Dev nD)

/-- The tokens the first call reads. -/
abbrev tokens : Vec Ideal S3072x15744 .bf16 := V c main_v0

/-- The token at place `i` of block `t`. -/
def tok (t : Fin cfg0.N) (i : Fin 64) : Fin 3072 :=
  ⟨t.val * 64 + i.val, by have h : t.val < 48 := Nat.lt_of_lt_of_eq t.isLt N_0; have := i.isLt; omega⟩

theorem coordQ (t : Fin cfg0.N) : (BitVec.ofNat 32 (grid0.coords t 0).val).toNat = t.val := by
  have ht : t.val < 48 := Nat.lt_of_lt_of_eq t.isLt N_0
  have e : (grid0.coords t 0).val = t.val / 1 % 48 := Pipeline.Grid.coords_val t 0 (by decide) rfl
  rw [BitVec.toNat_ofNat, e, Nat.div_one, Nat.mod_eq_of_lt ht]
  exact Nat.mod_eq_of_lt (by omega)

theorem index0_0 (t : Fin cfg0.N) : win0_0.index t 0 = t.val ∧ win0_0.index t 1 = 0 := ⟨coordQ t, rfl⟩
theorem index0_1 (t : Fin cfg0.N) : win0_1.index t 0 = t.val ∧ win0_1.index t 1 = 0 := ⟨coordQ t, rfl⟩
theorem index0_2 (t : Fin cfg0.N) : win0_2.index t 0 = t.val ∧ win0_2.index t 1 = 0 := ⟨coordQ t, rfl⟩

theorem iblk0_at (t : Fin cfg0.N) (i : Fin 64) (k : Fin 15744) : (iblk0 V c 0 t : Vec Ideal S64x15744 .bf16) (ix2 i k) = tokens V c (ix2 (tok t i) k) := by
  unfold iblk0
  rw [View.read_apply]
  show V c main_v0 _ = V c main_v0 _
  refine congrArg (V c main_v0) (funext fun a => Fin.ext ?_)
  match a with
  | ⟨0, _⟩ => show win0_0.index t 0 * 64 + 1 * i.val = t.val * 64 + i.val; rw [(index0_0 t).1]; omega
  | ⟨1, _⟩ => show win0_0.index t 1 * 15744 + 1 * k.val = k.val; rw [(index0_0 t).2]; omega

/-- The codes of every token. -/
def codesArr : Vec Ideal S3072x15744 .fp8e4m3 := fun y => kCode (fun k => tokens V c (ix2 (y 0) k)) (y 1)

/-- The scale of every token. -/
def scalesArr : Vec Ideal S3072x1 .f32 := fun y => Scale.kScale (ratio fun k => tokens V c (ix2 (y 0) k))

theorem emb0_1 (t : Fin cfg0.N) (i : Fin 64) (k : Fin 15744) : (win0_1.rect t).emb (ix2 i k) = ix2 (tok t i) k := by
  refine funext fun a => Fin.ext ?_
  match a with
  | ⟨0, _⟩ => show win0_1.index t 0 * 64 + 1 * i.val = t.val * 64 + i.val; rw [(index0_1 t).1]; omega
  | ⟨1, _⟩ => show win0_1.index t 1 * 15744 + 1 * k.val = k.val; rw [(index0_1 t).2]; omega

theorem emb0_2 (t : Fin cfg0.N) (i : Fin 64) : (win0_2.rect t).emb (ix2 i 0) = ix2 (tok t i) 0 := by
  refine funext fun a => Fin.ext ?_
  match a with
  | ⟨0, _⟩ => show win0_2.index t 0 * 64 + 1 * i.val = t.val * 64 + i.val; rw [(index0_2 t).1]; omega
  | ⟨1, _⟩ => show win0_2.index t 1 * 1 + 1 * 0 = 0; rw [(index0_2 t).2]

theorem flushed0_1 (t : Fin cfg0.N) : (dat0 V c).flushed 1 t = ((cfg0.win 1).blk t).view.read (Elt Ideal) (codesArr V c) := by
  funext y
  obtain ⟨i, k, rfl⟩ : ∃ (i : Fin 64) (k : Fin 15744), y = ix2 i k := ⟨y 0, y 1, eq_ix2 y⟩
  show (dat0 V c).after 1 t (ix2 i k) = codesArr V c ((win0_1.rect t).emb (ix2 i k))
  rw [emb0_1, after0_1]
  refine (out0_1_apply _ i k).trans ?_
  simp only [iblk0_at]
  rfl

theorem flushed0_2 (t : Fin cfg0.N) : (dat0 V c).flushed 2 t = ((cfg0.win 2).blk t).view.read (Elt Ideal) (scalesArr V c) := by
  funext y
  obtain ⟨i, rfl⟩ : ∃ i : Fin 64, y = ix2 i (0 : Fin 1) := ⟨y 0, (eq_ix2 y).trans (congrArg (ix2 (y 0)) (Subsingleton.elim (α := Fin 1) _ _))⟩
  show (dat0 V c).after 2 t (ix2 i 0) = scalesArr V c ((win0_2.rect t).emb (ix2 i 0))
  rw [emb0_2, after0_2]
  refine (out0_2_apply _ i).trans ?_
  simp only [iblk0_at]
  rfl

/-- The block of a token. -/
def blockOf (n : ℕ) (h : n < 3072) : Fin cfg0.N := ⟨n / 64, Nat.lt_of_lt_of_eq (by omega) N_0.symm⟩

theorem codes_arr : (dat0 V c).arrAt 1 cfg0.N = codesArr V c :=
  (dat0 V c).arrAt_eq_of_cover 1 (codesArr V c) (fun t _ => flushed0_1 V c t) fun i =>
    ⟨blockOf (i 0).val (i 0).isLt, flush0_1 _, by
      show i ∈ ((View.whole main_v1_0).slice (win0_1.rect (blockOf (i 0).val (i 0).isLt))).set
      rw [View.set_slice_whole, Rect.mem_set_unit]
      intro a
      have h0 : (i 0 : Nat) < 3072 := (i 0).isLt
      have h1 : (i 1 : Nat) < 15744 := (i 1).isLt
      match a with
      | ⟨0, _⟩ => show win0_1.index _ 0 * 64 ≤ (i 0 : Nat) ∧ (i 0 : Nat) < win0_1.index _ 0 * 64 + 64
                  rw [(index0_1 _).1]; show (i 0 : Nat) / 64 * 64 ≤ (i 0 : Nat) ∧ (i 0 : Nat) < (i 0 : Nat) / 64 * 64 + 64; omega
      | ⟨1, _⟩ => show win0_1.index _ 1 * 15744 ≤ (i 1 : Nat) ∧ (i 1 : Nat) < win0_1.index _ 1 * 15744 + 15744
                  rw [(index0_1 _).2]; omega⟩

theorem scales_arr : (dat0 V c).arrAt 2 cfg0.N = scalesArr V c :=
  (dat0 V c).arrAt_eq_of_cover 2 (scalesArr V c) (fun t _ => flushed0_2 V c t) fun i =>
    ⟨blockOf (i 0).val (i 0).isLt, flush0_2 _, by
      show i ∈ ((View.whole main_v1_1).slice (win0_2.rect (blockOf (i 0).val (i 0).isLt))).set
      rw [View.set_slice_whole, Rect.mem_set_unit]
      intro a
      have h0 : (i 0 : Nat) < 3072 := (i 0).isLt
      have h1 : (i 1 : Nat) < 1 := (i 1).isLt
      match a with
      | ⟨0, _⟩ => show win0_2.index _ 0 * 64 ≤ (i 0 : Nat) ∧ (i 0 : Nat) < win0_2.index _ 0 * 64 + 64
                  rw [(index0_2 _).1]; show (i 0 : Nat) / 64 * 64 ≤ (i 0 : Nat) ∧ (i 0 : Nat) < (i 0 : Nat) / 64 * 64 + 64; omega
      | ⟨1, _⟩ => show win0_2.index _ 1 * 1 ≤ (i 1 : Nat) ∧ (i 1 : Nat) < win0_2.index _ 1 * 1 + 1
                  rw [(index0_2 _).2]; omega⟩

end Cert.KernelIdeal.Run

end
-- ==== Proof.ProjRowsIdeal.lean ====
/- What the kernel's second call computes at a point, entry by entry: a tile of the residual row, its sums of squares, and,
   at the last point of a row of tiles, the normalised row's largest magnitude, its scale and its codes. -/
module

public import proofs.«01_k».proof.Proof.Lanes
public import proofs.«01_k».proof.Proof.ProjIdeal

@[expose] public section

noncomputable section

namespace Cert.ProjRows

open Idealize.ShloMosaic Idealize.ShloMosaic.ValueIdx Cert.Rows Cert.Lanes Cert.KernelIdeal Cert.KernelIdeal.Gen
open scoped BigOperators

/-! ## One 512 by 512 tile of the normalised row -/

section Tile
variable (E : FVec Ideal S1x512x512 .bf16) (rs : FVec Ideal S512x1 .f32) (G : FVec Ideal S1x512 .f32) (i j : Fin 512)

theorem cell_at : mulf (mulf (extf .f32 (shapeCast S512x512 E shapeCasts_S1x512x512_S512x512) bitsLt_bf16_f32)
      (broadcastTo S512x512 rs broadcasts_S512x1_S512x512)) (broadcastTo S512x512 G broadcasts_S1x512_S512x512) (ix2 i j)
    = (E (ix3 0 i j) * rs (ix2 i 0) * G (ix2 0 j) : EReal) := by
  rw [mulf_at, mulf_at, extf_at, castDrop, bcastCol, bcastRow]

/-- The largest magnitude of a row of the tile. -/
def part : EReal := Finset.univ.sup fun j : Fin 512 => mag (E (ix3 0 i j) * rs (ix2 i 0) * G (ix2 0 j))

theorem part_at (hφ : FKind.Formats .f32) (hacc : (0xFF800000#32 : BitVec 32) = 0xFF800000#32) :
    shapeCast S512x1 (multiReduction .maximumf [1] S512 (absf (mulf (mulf (extf .f32 (shapeCast S512x512 E shapeCasts_S1x512x512_S512x512) bitsLt_bf16_f32)
      (broadcastTo S512x512 rs broadcasts_S512x1_S512x512)) (broadcastTo S512x512 G broadcasts_S1x512_S512x512)))
      0xFF800000#32 reduces_S512x512_S512 hφ hacc) shapeCasts_S512_S512x1 (ix2 i 0) = part E rs G i := by
  rw [castCol]
  refine (rowMax _ _ _ _ _ ninf_f32 i).trans ?_
  simp only [absf_at, cell_at]
  unfold part
  with_reducible rfl

theorem code_at (inv : FVec Ideal S512x1 .f32) :
    truncf .fp8e4m3 (minimumf (broadcast S512x512 (Scalar.ofBits .f32 0x43E00000#32)) (maximumf (broadcast S512x512 (Scalar.ofBits .f32 0xC3E00000#32))
      (mulf (mulf (mulf (extf .f32 (shapeCast S512x512 E shapeCasts_S1x512x512_S512x512) bitsLt_bf16_f32)
        (broadcastTo S512x512 rs broadcasts_S512x1_S512x512)) (broadcastTo S512x512 G broadcasts_S1x512_S512x512))
        (broadcastTo S512x512 inv broadcasts_S512x1_S512x512)))) bitsLt_fp8e4m3_f32 (ix2 i j)
      = clip (E (ix3 0 i j) * rs (ix2 i 0) * G (ix2 0 j) * inv (ix2 i 0)) := by
  rw [truncf_at]
  refine (clip_at _ _).trans ?_
  rw [mulf_at, cell_at, bcastCol]

end Tile

theorem zero_bits : Ideal.ofBits .f32 0x00000000#32 = (0 : EReal) := by simp [Ideal.ofBits, Ideal.ieee]

theorem rms_at (s : FVec Ideal S512x1 .f32) (i : Fin 512) : k1_pay1 (F := Ideal) s (ix2 i 0) = rms (s (ix2 i 0)) := by
  unfold k1_pay1
  rw [rsqrt_at, addf_at, divf_at, broadcast_at, broadcast_at, ofBits_eq, ofBits_eq]
  unfold rms
  with_reducible rfl

theorem scaleRow_at (g : FVec Ideal S1x512 .bf16) : k1_pay3 (F := Ideal) g = g ∧ k1_pay5 (F := Ideal) g = g ∧ k1_pay7 (F := Ideal) g = g := by
  unfold k1_pay3 k1_pay5 k1_pay7
  rw [shapeCast_self]
  exact ⟨rfl, rfl, rfl⟩

/-- A row of 512 scale factors, read in the wide format. -/
def wide (g : FVec Ideal S1x512 .bf16) : FVec Ideal S1x512 .f32 := g

section Max
variable (s rs a : FVec Ideal S512x1 .f32) (g0 g1 g2 : FVec Ideal S1x512 .bf16) (G : FVec Ideal S1x512 .f32)
  (e0 e1 e2 : FVec Ideal S1x512x512 .bf16) (i : Fin 512)

theorem pay2_at : k1_pay2 (F := Ideal) s g0 e0 g1 e1 (ix2 i 0)
    = max (max 0 (part e0 (k1_pay1 (F := Ideal) s) (extf .f32 g0 bitsLt_bf16_f32) i)) (part e1 (k1_pay1 (F := Ideal) s) (extf .f32 g1 bitsLt_bf16_f32) i) := by
  unfold k1_pay2
  rw [shapeCast_self, shapeCast_self]
  rw [maximumf_at, maximumf_at, part_at, part_at, broadcast_at, ofBits_eq, zero_bits]

theorem pay4_at : k1_pay4 (F := Ideal) rs a G e0 g1 e1 g2 e2 (ix2 i 0)
    = max (max (max (a (ix2 i 0)) (part e0 rs G i)) (part e1 rs (extf .f32 g1 bitsLt_bf16_f32) i)) (part e2 rs (extf .f32 g2 bitsLt_bf16_f32) i) := by
  unfold k1_pay4
  rw [shapeCast_self, shapeCast_self]
  rw [maximumf_at, maximumf_at, maximumf_at, part_at, part_at, part_at]

theorem pay6_at : k1_pay6 (F := Ideal) rs a G e0 g1 e1 g2 e2 (ix2 i 0)
    = max (max (max (a (ix2 i 0)) (part e0 rs G i)) (part e1 rs (extf .f32 g1 bitsLt_bf16_f32) i)) (part e2 rs (extf .f32 g2 bitsLt_bf16_f32) i) := by
  unfold k1_pay6
  rw [shapeCast_self, shapeCast_self]
  rw [maximumf_at, maximumf_at, maximumf_at, part_at, part_at, part_at]

theorem pay8_at : k1_pay8 (F := Ideal) rs a G e0 g1 e1 (ix2 i 0)
    = max (max (a (ix2 i 0)) (part e0 rs G i)) (part e1 rs (extf .f32 g1 bitsLt_bf16_f32) i) * Ideal.ofBits .f32 0x3B124925#32 := by
  unfold k1_pay8
  rw [shapeCast_self]
  rw [mulf_at, maximumf_at, maximumf_at, part_at, part_at, broadcast_at, ofBits_eq]

theorem pay9_at : k1_pay9 (F := Ideal) rs a G e0 g1 e1 (ix2 i 0)
    = Scale.step (k1_pay8 (F := Ideal) rs a G e0 g1 e1 (ix2 i 0)) (Scale.step (k1_pay8 (F := Ideal) rs a G e0 g1 e1 (ix2 i 0)) 0#32 128#32) 64#32 := by
  unfold k1_pay9
  rw [step_at, step_at, broadcast_at]

theorem pay12_at (t : FVec Ideal S512x1 .f32) (x : IVec S512x1 32)
    (h : x (ix2 i 0) = Scale.step (t (ix2 i 0)) (Scale.step (t (ix2 i 0)) 0#32 128#32) 64#32) :
    k1_pay12 (F := Ideal) t x (addi x (broadcast S512x1 32#32)) k1_pay11 (ix2 i 0) = Scale.field (t (ix2 i 0)) := by
  unfold k1_pay12 k1_pay11
  refine (field_at _ _).trans ?_
  rw [step_at, step_at, step_at, step_at, step_at, step_at, h]
  unfold Scale.field Scale.search Scale.searchHi
  with_reducible rfl

theorem inv_at (x : IVec S512x1 32) : k1_pay16 (F := Ideal) x (ix2 i 0) = Scale.pat (IntOp.subi 253#32 (x (ix2 i 0))) := by
  unfold k1_pay16
  rw [pat_at, subi_at, broadcast_at]

theorem scale_at (t : FVec Ideal S512x1 .f32) (x y z : IVec S512x1 32) :
    k1_pay15 (F := Ideal) (k1_pay13 (F := Ideal) t x y z) k1_pay14 (ix2 i 0)
      = Scale.pat (IntOp.addi (k1_pay12 (F := Ideal) t x y z (ix2 i 0)) 1#32) := by
  unfold k1_pay15 k1_pay13 k1_pay14
  rw [pat_at, addi_at, broadcast_at]

end Max

/-! ## The stored slabs of codes -/

section Codes
variable (rs inv : FVec Ideal S512x1 .f32) (x : IVec S512x1 32) (g : FVec Ideal S1x512 .bf16) (e : FVec Ideal S1x512x512 .bf16) (i j : Fin 512)

theorem pay17_at : k1_pay17 (F := Ideal) rs x g e (ix2 i j) = clip (e (ix3 0 i j) * rs (ix2 i 0) * g (ix2 0 j) * k1_pay16 (F := Ideal) x (ix2 i 0)) := by
  unfold k1_pay17
  rw [shapeCast_self]
  refine (code_at _ _ _ i j _).trans ?_
  rw [extf_at]

theorem pay19_at : k1_pay19 (F := Ideal) (k1_pay18 (F := Ideal) rs x g e) (Scalar.ofBits .f32 0xC3E00000#32) (Scalar.ofBits .f32 0x43E00000#32) (ix2 i j)
    = clip (e (ix3 0 i j) * rs (ix2 i 0) * g (ix2 0 j) * k1_pay16 (F := Ideal) x (ix2 i 0)) := by
  unfold k1_pay19 k1_pay18
  rw [shapeCast_self]
  refine (code_at _ _ _ i j _).trans ?_
  rw [extf_at]

theorem pay22_at : k1_pay22 (F := Ideal) (k1_pay21 (F := Ideal) rs inv g e) (ix2 i j)
    = clip (e (ix3 0 i j) * rs (ix2 i 0) * g (ix2 0 j) * inv (ix2 i 0)) := by
  unfold k1_pay22 k1_pay21
  rw [shapeCast_self]
  refine (code_at _ _ _ i j _).trans ?_
  rw [extf_at]

theorem pay20_at : k1_pay20 (F := Ideal) rs inv g e (ix2 i j) = clip (e (ix3 0 i j) * rs (ix2 i 0) * g (ix2 0 j) * inv (ix2 i 0)) := by
  unfold k1_pay20
  rw [shapeCast_self]
  refine (code_at _ _ _ i j _).trans ?_
  rw [extf_at]

theorem pay23_at : k1_pay23 (F := Ideal) rs inv g e (ix2 i j) = clip (e (ix3 0 i j) * rs (ix2 i 0) * g (ix2 0 j) * inv (ix2 i 0)) := by
  unfold k1_pay23
  rw [shapeCast_self]
  refine (code_at _ _ _ i j _).trans ?_
  rw [extf_at]

theorem pay24_at : k1_pay24 (F := Ideal) rs inv g e (ix2 i j) = clip (e (ix3 0 i j) * rs (ix2 i 0) * g (ix2 0 j) * inv (ix2 i 0)) := by
  unfold k1_pay24
  rw [shapeCast_self]
  refine (code_at _ _ _ i j _).trans ?_
  rw [extf_at]

theorem pay25_at : k1_pay25 (F := Ideal) rs inv g e (ix2 i j) = clip (e (ix3 0 i j) * rs (ix2 i 0) * g (ix2 0 j) * inv (ix2 i 0)) := by
  unfold k1_pay25
  rw [shapeCast_self]
  refine (code_at _ _ _ i j _).trans ?_
  rw [extf_at]

theorem pay26_at : k1_pay26 (F := Ideal) rs inv g e (ix2 i j) = clip (e (ix3 0 i j) * rs (ix2 i 0) * g (ix2 0 j) * inv (ix2 i 0)) := by
  unfold k1_pay26
  rw [shapeCast_self]
  refine (code_at _ _ _ i j _).trans ?_
  rw [extf_at]

theorem pay27_at : k1_pay27 (F := Ideal) rs inv g e (ix2 i j) = clip (e (ix3 0 i j) * rs (ix2 i 0) * g (ix2 0 j) * inv (ix2 i 0)) := by
  unfold k1_pay27
  rw [shapeCast_self]
  refine (code_at _ _ _ i j _).trans ?_
  rw [extf_at]

theorem pay28_at : k1_pay28 (F := Ideal) rs inv g e (ix2 i j) = clip (e (ix3 0 i j) * rs (ix2 i 0) * g (ix2 0 j) * inv (ix2 i 0)) := by
  unfold k1_pay28
  rw [shapeCast_self]
  refine (code_at _ _ _ i j _).trans ?_
  rw [extf_at]

end Codes

/-! ## One tile of the residual row -/

section Resid
variable (L : FVec Ideal S512x15744 .fp8e4m3) (W : FVec Ideal S15744x512 .fp8e4m3) (xs : FVec Ideal S512x1 .f32) (ws : FVec Ideal S1x512 .f32)
  (R : FVec Ideal S512x512 .bf16) (i j : Fin 512)

/-- An entry of the tile. -/
def tile : EReal := (∑ q : Fin 15744, L (ix2 i q) * W (ix2 q j)) * xs (ix2 i 0) * ws (ix2 0 j) + R (ix2 i j)

theorem dot_eq : matmul dot_S512x15744_S15744x512_S512x512_1_0_0_1_n_n none L W (constant S512x512 .f32 0x00000000#32) (ix2 i j)
      = ∑ q : Fin 15744, L (ix2 i q) * W (ix2 q j) :=
  dot_apply _ rfl rfl (fun _ _ => ⟨rfl, rfl⟩) (fun _ _ => ⟨rfl, rfl⟩) none L W i j

theorem tile_at : k1_pay29 (F := Ideal) L W xs ws R (ix2 i j) = tile L W xs ws R i j := by
  unfold k1_pay29
  rw [shapeCast_self, shapeCast_self, shapeCast_self, shapeCast_self]
  rw [truncf_at, addf_at, mulf_at, mulf_at, extf_at, bcastCol, bcastRow, dot_eq]
  unfold tile
  with_reducible rfl

theorem slice_at : k1_pay30 (F := Ideal) L W xs ws R (ix3 0 i j) = tile L W xs ws R i j := by
  unfold k1_pay30
  rw [castAdd, tile_at]

theorem squares_at : k1_pay31 (F := Ideal) L W xs ws R (ix2 i 0) = ∑ j, tile L W xs ws R i j * tile L W xs ws R i j := by
  unfold k1_pay31
  rw [castCol]
  refine (rowSum _ _ _ _ _ i).trans (Finset.sum_congr rfl fun j _ => ?_)
  rw [mulf_at, extf_at, tile_at]

theorem first_at : k1_pay32 (F := Ideal) L W xs ws R (ix2 i 0) = ∑ j, tile L W xs ws R i j * tile L W xs ws R i j := by
  unfold k1_pay32
  rw [shapeCast_self, squares_at]

theorem next_at (s : FVec Ideal S512x1 .f32) : k1_pay33 (F := Ideal) L W xs ws R s (ix2 i 0)
    = s (ix2 i 0) + ∑ j, tile L W xs ws R i j * tile L W xs ws R i j := by
  unfold k1_pay33
  rw [shapeCast_self, addf_at, squares_at]

end Resid

end Cert.ProjRows

end
-- ==== Proof.ProjRowIdeal.lean ====
/- The last point of a row of tiles, entry by entry: from the row of ten tiles and its sums of squares to the scale and the
   5120 codes of each token; and a point's tile and sums of squares from its blocks. -/
module

public import proofs.«01_k».proof.Proof.ProjRowsIdeal

@[expose] public section

noncomputable section

namespace Cert.KernelIdeal.Run

open Idealize.ShloMosaic Idealize.ShloMosaic.ValueIdx Cert.Rows Cert.Lanes Cert.KernelIdeal.Gen Cert.ProjRows
open scoped BigOperators

/-! ## Loads of a slab -/

theorem ld_slice (e : Vec Ideal S10x512x512 .bf16) (k : ℕ) (hk : k < 10) (h) (i j : Fin 512) :
    View.ld e (Rect.unit (s := S10x512x512) ![k, 0, 0] S1x512x512.size h) (ix3 0 i j) = e (ix3 ⟨k, hk⟩ i j) := by
  refine congrArg e (funext fun a => Fin.ext ?_)
  fin_cases a
  · show k + 1 * 0 = k
    omega
  · show 0 + 1 * i.val = i.val
    omega
  · show 0 + 1 * j.val = j.val
    omega

theorem ld_slab (g : Vec Ideal S1x5120 .bf16) (o k : ℕ) (hk : k < 10) (ho : o = k * 512) (h) (j : Fin 512) :
    View.ld g (Rect.unit (s := S1x5120) ![0, o] S1x512.size h) (ix2 0 j) = g (ix2 0 (col ⟨k, hk⟩ j)) := by
  subst ho
  refine congrArg g (funext fun a => Fin.ext ?_)
  fin_cases a
  · rfl
  · show k * 512 + 1 * j.val = k * 512 + j.val
    omega

theorem emb_slab (o k : ℕ) (hk : k < 10) (ho : o = k * 512) (h) (i j : Fin 512) :
    (Rect.unit (s := S512x5120) ![0, o] S512x512.size h).emb (ix2 i j) = ix2 i (col ⟨k, hk⟩ j) := by
  subst ho
  refine funext fun a => Fin.ext ?_
  fin_cases a
  · show 0 + 1 * i.val = i.val
    omega
  · show k * 512 + 1 * j.val = k * 512 + j.val
    omega

section Row
variable (g : Vec Ideal S1x5120 .bf16) (e : Vec Ideal S10x512x512 .bf16) (s : Vec Ideal S512x1 .f32) (i j : Fin 512)

/-- The entry of the normalised row in tile `k` at position `j`. -/
def cellOf (k : Fin 10) : EReal := e (ix3 k i j) * rms (s (ix2 i 0)) * g (ix2 0 (col k j))

/-- The largest magnitude of a row within tile `k`. -/
def topOf (k : Fin 10) : EReal := Finset.univ.sup fun j : Fin 512 => mag (cellOf g e s i j k)

theorem topOf_nonneg (k : Fin 10) : 0 ≤ topOf g e s i k :=
  le_trans (mag_nonneg _) (Finset.le_sup (f := fun j : Fin 512 => mag (cellOf g e s i j k)) (Finset.mem_univ 0))

/-- The largest magnitude of the row, times the constant for 1/448. -/
def rowRatio : EReal := (Finset.univ.sup fun k => topOf g e s i k) * Ideal.ofBits .f32 0x3B124925#32

theorem rsOf_at : rsOf (F := Ideal) s (ix2 i 0) = rms (s (ix2 i 0)) := by
  unfold rsOf
  rw [View.ld_unit_zero zero2, rms_at]

theorem part_eq (o k : ℕ) (hk : k < 10) (ho : o = k * 512) (h h') (G : FVec Ideal S1x512 .f32)
    (hG : ∀ j, G (ix2 0 j) = View.ld g (Rect.unit (s := S1x5120) ![0, o] S1x512.size h) (ix2 0 j)) :
    part (View.ld e (Rect.unit (s := S10x512x512) ![k, 0, 0] S1x512x512.size h')) (rsOf (F := Ideal) s) G i = topOf g e s i ⟨k, hk⟩ := by
  unfold part topOf cellOf
  refine congrArg (Finset.univ.sup) (funext fun j => ?_)
  rw [hG, ld_slice e k hk, ld_slab g o k hk ho, rsOf_at]

theorem ratioOf_at : ratioOf (F := Ideal) g e s (ix2 i 0) = rowRatio g e s i := by
  unfold ratioOf amax7 amax4 amax1
  rw [pay8_at, pay6_at, pay4_at, pay2_at]
  change (max (max (max (max (max (max (max (max (max (max 0 (part (View.ld e re0) (rsOf (F := Ideal) s) _ i)) (part (View.ld e re1) (rsOf (F := Ideal) s) _ i))
    (part (View.ld e re2) (rsOf (F := Ideal) s) _ i)) (part (View.ld e re3) (rsOf (F := Ideal) s) _ i)) (part (View.ld e re4) (rsOf (F := Ideal) s) _ i))
    (part (View.ld e re5) (rsOf (F := Ideal) s) _ i)) (part (View.ld e re6) (rsOf (F := Ideal) s) _ i)) (part (View.ld e re7) (rsOf (F := Ideal) s) _ i))
    (part (View.ld e re8) (rsOf (F := Ideal) s) _ i)) (part (View.ld e re9) (rsOf (F := Ideal) s) _ i)) * _ = _
  rw [part_eq g e s i 0 0 (by omega) (by omega) inb_S1x5120_S1x512_0_0 inb_S10x512x512_S1x512x512_0_0_0 (extf .f32 (View.ld g rg0) bitsLt_bf16_f32) (fun _ => extf_at _ _ _)]
  rw [part_eq g e s i 512 1 (by omega) (by omega) inb_S1x5120_S1x512_0_512 inb_S10x512x512_S1x512x512_1_0_0 (extf .f32 (View.ld g rg1) bitsLt_bf16_f32) (fun _ => extf_at _ _ _)]
  rw [part_eq g e s i 1024 2 (by omega) (by omega) inb_S1x5120_S1x512_0_1024 inb_S10x512x512_S1x512x512_2_0_0 (k1_pay3 (F := Ideal) (View.ld g rg2)) (fun _ => congrFun (scaleRow_at _).1 _)]
  rw [part_eq g e s i 1536 3 (by omega) (by omega) inb_S1x5120_S1x512_0_1536 inb_S10x512x512_S1x512x512_3_0_0 (extf .f32 (View.ld g rg3) bitsLt_bf16_f32) (fun _ => extf_at _ _ _)]
  rw [part_eq g e s i 2048 4 (by omega) (by omega) inb_S1x5120_S1x512_0_2048 inb_S10x512x512_S1x512x512_4_0_0 (extf .f32 (View.ld g rg4) bitsLt_bf16_f32) (fun _ => extf_at _ _ _)]
  rw [part_eq g e s i 2560 5 (by omega) (by omega) inb_S1x5120_S1x512_0_2560 inb_S10x512x512_S1x512x512_5_0_0 (k1_pay5 (F := Ideal) (View.ld g rg5)) (fun _ => congrFun (scaleRow_at _).2.1 _)]
  rw [part_eq g e s i 3072 6 (by omega) (by omega) inb_S1x5120_S1x512_0_3072 inb_S10x512x512_S1x512x512_6_0_0 (extf .f32 (View.ld g rg6) bitsLt_bf16_f32) (fun _ => extf_at _ _ _)]
  rw [part_eq g e s i 3584 7 (by omega) (by omega) inb_S1x5120_S1x512_0_3584 inb_S10x512x512_S1x512x512_7_0_0 (extf .f32 (View.ld g rg7) bitsLt_bf16_f32) (fun _ => extf_at _ _ _)]
  rw [part_eq g e s i 4096 8 (by omega) (by omega) inb_S1x5120_S1x512_0_4096 inb_S10x512x512_S1x512x512_8_0_0 (k1_pay7 (F := Ideal) (View.ld g rg8)) (fun _ => congrFun (scaleRow_at _).2.2 _)]
  rw [part_eq g e s i 4608 9 (by omega) (by omega) inb_S1x5120_S1x512_0_4608 inb_S10x512x512_S1x512x512_9_0_0 (extf .f32 (View.ld g rg9) bitsLt_bf16_f32) (fun _ => extf_at _ _ _)]
  unfold rowRatio
  rw [← max_slabs (fun k => topOf g e s i k) (topOf_nonneg g e s i 0)]
  rfl

theorem exp0_at : exp0 (F := Ideal) g e s (ix2 i 0) = Scale.step (rowRatio g e s i) (Scale.step (rowRatio g e s i) 0#32 128#32) 64#32 := by
  have h := ratioOf_at g e s i
  unfold ratioOf at h
  unfold exp0
  rw [pay9_at, h]

theorem expOf_at : expOf (F := Ideal) g e s (ix2 i 0) = Scale.field (rowRatio g e s i) := by
  unfold expOf
  have h := pay12_at i (ratioOf (F := Ideal) g e s) (exp0 (F := Ideal) g e s) (by rw [exp0_at, ratioOf_at])
  rw [ratioOf_at] at h
  exact h

theorem invOf_at : invOf (F := Ideal) g e s (ix2 i 0) = Scale.kInv (rowRatio g e s i) := by
  unfold invOf
  rw [inv_at, expOf_at]
  unfold Scale.kInv
  with_reducible rfl

theorem ysOut_at : ysOut (F := Ideal) g e s (ix2 i 0) = Scale.kScale (rowRatio g e s i) := by
  have h := expOf_at g e s i
  unfold expOf at h
  unfold ysOut
  rw [View.canon_unit_zero zero2, scale_at, h]
  unfold Scale.kScale
  with_reducible rfl

/-- The code of the normalised row in tile `k` at position `j`. -/
def codeOf (k : Fin 10) : EReal := clip (cellOf g e s i j k * Scale.kInv (rowRatio g e s i))

theorem yPay0_at : yPay0 (F := Ideal) g e s (ix2 i j) = codeOf g e s i j 0 := by
  unfold yPay0
  rw [pay17_at, rsOf_at, inv_at, expOf_at, ld_slice e 0 (by omega), ld_slab g 0 0 (by omega) (by omega)]
  unfold codeOf cellOf Scale.kInv
  rfl

theorem yPay1_at : yPay1 (F := Ideal) g e s (ix2 i j) = codeOf g e s i j 1 := by
  unfold yPay1
  rw [pay19_at, rsOf_at, inv_at, expOf_at, ld_slice e 1 (by omega), ld_slab g 512 1 (by omega) (by omega)]
  unfold codeOf cellOf Scale.kInv
  rfl

theorem yPay2_at : yPay2 (F := Ideal) g e s (ix2 i j) = codeOf g e s i j 2 := by
  unfold yPay2
  rw [pay20_at, rsOf_at, invOf_at, ld_slice e 2 (by omega), ld_slab g 1024 2 (by omega) (by omega)]
  unfold codeOf cellOf
  rfl

theorem yPay3_at : yPay3 (F := Ideal) g e s (ix2 i j) = codeOf g e s i j 3 := by
  unfold yPay3
  rw [pay22_at, rsOf_at, invOf_at, ld_slice e 3 (by omega), ld_slab g 1536 3 (by omega) (by omega)]
  unfold codeOf cellOf
  rfl

theorem yPay4_at : yPay4 (F := Ideal) g e s (ix2 i j) = codeOf g e s i j 4 := by
  unfold yPay4
  rw [pay23_at, rsOf_at, invOf_at, ld_slice e 4 (by omega), ld_slab g 2048 4 (by omega) (by omega)]
  unfold codeOf cellOf
  rfl

theorem yPay5_at : yPay5 (F := Ideal) g e s (ix2 i j) = codeOf g e s i j 5 := by
  unfold yPay5
  rw [pay24_at, rsOf_at, invOf_at, ld_slice e 5 (by omega), ld_slab g 2560 5 (by omega) (by omega)]
  unfold codeOf cellOf
  rfl

theorem yPay6_at : yPay6 (F := Ideal) g e s (ix2 i j) = codeOf g e s i j 6 := by
  unfold yPay6
  rw [pay25_at, rsOf_at, invOf_at, ld_slice e 6 (by omega), ld_slab g 3072 6 (by omega) (by omega)]
  unfold codeOf cellOf
  rfl

theorem yPay7_at : yPay7 (F := Ideal) g e s (ix2 i j) = codeOf g e s i j 7 := by
  unfold yPay7
  rw [pay26_at, rsOf_at, invOf_at, ld_slice e 7 (by omega), ld_slab g 3584 7 (by omega) (by omega)]
  unfold codeOf cellOf
  rfl

theorem yPay8_at : yPay8 (F := Ideal) g e s (ix2 i j) = codeOf g e s i j 8 := by
  unfold yPay8
  rw [pay27_at, rsOf_at, invOf_at, ld_slice e 8 (by omega), ld_slab g 4096 8 (by omega) (by omega)]
  unfold codeOf cellOf
  rfl

theorem yPay9_at : yPay9 (F := Ideal) g e s (ix2 i j) = codeOf g e s i j 9 := by
  unfold yPay9
  rw [pay28_at, rsOf_at, invOf_at, ld_slice e 9 (by omega), ld_slab g 4608 9 (by omega) (by omega)]
  unfold codeOf cellOf
  rfl

/-- The codes of the row, at column `k`. -/
theorem yOut_at (k : Fin 10) : yOut (F := Ideal) g e s (ix2 i (col k j)) = codeOf g e s i j k := by
  let G : Vec Ideal S512x5120 .fp8e4m3 := fun y =>
    codeOf g e s (y 0) ⟨(y 1).val % 512, Nat.mod_lt _ (by omega)⟩ ⟨(y 1).val / 512, by have h : (y 1).val < 5120 := (y 1).isLt; omega⟩
  have hG : ∀ (i j : Fin 512) (k : Fin 10), G (ix2 i (col k j)) = codeOf g e s i j k := by
    intro i j k
    have e1 : (⟨(col k j).val % 512, Nat.mod_lt _ (by omega)⟩ : Fin 512) = j := Fin.ext (by show (k.val * 512 + j.val) % 512 = j.val; omega)
    have e2 : (⟨(col k j).val / 512, by have h := (col k j).isLt; omega⟩ : Fin 10) = k := Fin.ext (by show (k.val * 512 + j.val) / 512 = k.val; omega)
    show codeOf g e s i ⟨(col k j).val % 512, _⟩ ⟨(col k j).val / 512, _⟩ = _
    rw [e1, e2]
  have H : ∀ (o k : ℕ) (hk : k < 10) (ho : o = k * 512) (h) (p : FVec Ideal S512x512 .fp8e4m3), (∀ i j, p (ix2 i j) = codeOf g e s i j ⟨k, hk⟩) →
      ∀ x, p x = G ((Rect.unit (s := S512x5120) ![0, o] S512x512.size h).emb x) := by
    intro o k hk ho h p hp x
    obtain ⟨i, j, rfl⟩ : ∃ i j : Fin 512, x = ix2 i j := ⟨x 0, x 1, eq_ix2 x⟩
    rw [emb_slab o k hk ho, hG, hp]
  unfold yOut
  refine (View.canon_apply_of_pieces G _ ?_ _ (ycover _ _ _ _ _ _ _ _ _ _ _)).trans (hG i j k)
  intro p hp
  simp only [List.mem_cons, List.mem_nil_iff, or_false] at hp
  rcases hp with rfl | rfl | rfl | rfl | rfl | rfl | rfl | rfl | rfl | rfl
  · exact H 4608 9 (by omega) (by omega) inb_S512x5120_S512x512_0_4608 _ (fun i j => yPay9_at g e s i j)
  · exact H 4096 8 (by omega) (by omega) inb_S512x5120_S512x512_0_4096 _ (fun i j => yPay8_at g e s i j)
  · exact H 3584 7 (by omega) (by omega) inb_S512x5120_S512x512_0_3584 _ (fun i j => yPay7_at g e s i j)
  · exact H 3072 6 (by omega) (by omega) inb_S512x5120_S512x512_0_3072 _ (fun i j => yPay6_at g e s i j)
  · exact H 2560 5 (by omega) (by omega) inb_S512x5120_S512x512_0_2560 _ (fun i j => yPay5_at g e s i j)
  · exact H 2048 4 (by omega) (by omega) inb_S512x5120_S512x512_0_2048 _ (fun i j => yPay4_at g e s i j)
  · exact H 1536 3 (by omega) (by omega) inb_S512x5120_S512x512_0_1536 _ (fun i j => yPay3_at g e s i j)
  · exact H 1024 2 (by omega) (by omega) inb_S512x5120_S512x512_0_1024 _ (fun i j => yPay2_at g e s i j)
  · exact H 512 1 (by omega) (by omega) inb_S512x5120_S512x512_0_512 _ (fun i j => yPay1_at g e s i j)
  · exact H 0 0 (by omega) (by omega) inb_S512x5120_S512x512_0_0 _ (fun i j => yPay0_at g e s i j)

end Row

section Blocks
variable (x0 : Vec Ideal S512x15744 .fp8e4m3) (x1 : Vec Ideal S15744x512 .fp8e4m3) (x2 : Vec Ideal S512x1 .f32) (x3 : Vec Ideal S1x512 .f32)
  (x4 : Vec Ideal S512x512 .bf16) (i j : Fin 512)

theorem rTile_at : rTile (F := Ideal) x0 x1 x2 x3 x4 (ix2 i j) = tile x0 x1 x2 x3 x4 i j := by
  unfold rTile
  rw [View.canon_unit_zero zero2, View.ld_unit_zero zero2, View.ld_unit_zero zero2, View.ld_unit_zero zero2, View.ld_unit_zero zero2, View.ld_unit_zero zero2, tile_at]

theorem ssFirst_at : ssFirst (F := Ideal) x0 x1 x2 x3 x4 (ix2 i 0) = ∑ j, tile x0 x1 x2 x3 x4 i j * tile x0 x1 x2 x3 x4 i j := by
  unfold ssFirst
  rw [View.canon_unit_zero zero2, View.ld_unit_zero zero2, View.ld_unit_zero zero2, View.ld_unit_zero zero2, View.ld_unit_zero zero2, View.ld_unit_zero zero2, first_at]

theorem ssNext_at (s : Vec Ideal S512x1 .f32) : ssNext (F := Ideal) x0 x1 x2 x3 x4 s (ix2 i 0)
    = s (ix2 i 0) + ∑ j, tile x0 x1 x2 x3 x4 i j * tile x0 x1 x2 x3 x4 i j := by
  unfold ssNext
  rw [View.canon_unit_zero zero2, View.ld_unit_zero zero2, View.ld_unit_zero zero2, View.ld_unit_zero zero2, View.ld_unit_zero zero2, View.ld_unit_zero zero2, View.ld_unit_zero zero2, next_at]

end Blocks

end Cert.KernelIdeal.Run

end
-- ==== Proof.ProjArrayIdeal.lean ====
/- The three arrays the kernel's second call leaves, entry by entry: the residual, the codes of the normalised rows and their
   scales. -/
module

public import proofs.«01_k».proof.Proof.ProjRowIdeal
public import proofs.«01_k».proof.Proof.ProjDataIdeal

@[expose] public section

set_option maxRecDepth 16384

noncomputable section

namespace Cert.KernelIdeal.Run

open Idealize.ShloMosaic Idealize.ShloMosaic.TcCoe Idealize.ShloMosaic.ValueIdx Cert.Rows Cert.KernelIdeal.Gen Cert.ProjRows
open Idealize.ShloMosaic.Pipeline (Dat Cfg Window)
open scoped BigOperators

variable (V : (c : Dev nD) → (b : Ref sig .tc) → Buf (Elt Ideal) ((c : Thread nD τ).loc b)) (c : Dev nD)

/-! ## What the call reads -/

abbrev qIn : Vec Ideal S3072x15744 .fp8e4m3 := V c main_v1_0
abbrev wIn : Vec Ideal S15744x5120 .fp8e4m3 := V c main_arg1
abbrev sIn : Vec Ideal S3072x1 .f32 := V c main_v1_1
abbrev wsIn : Vec Ideal S1x5120 .f32 := V c main_v2
abbrev rIn : Vec Ideal S3072x5120 .bf16 := V c main_v3
abbrev gIn : Vec Ideal S1x5120 .bf16 := V c main_v4

/-- The residual at a token and a column. -/
def kres (p : Fin 3072) (j : Fin 5120) : EReal :=
  (∑ q : Fin 15744, qIn V c (ix2 p q) * wIn V c (ix2 q j)) * sIn V c (ix2 p 0) * wsIn V c (ix2 0 j) + rIn V c (ix2 p j)

/-- The normalised row of a token. -/
def knorm (p : Fin 3072) : Fin 5120 → EReal := normed (kres V c p) fun k => gIn V c (ix2 0 k)

/-! ## Where a point's blocks lie -/

/-- The token at place `i` of a point's row block. -/
def rowTok (t : Fin cfg1.N) (i : Fin 512) : Fin 3072 :=
  ⟨t.val / 10 * 512 + i.val, by have h := Nat.lt_of_lt_of_eq t.isLt N1; have := i.isLt; omega⟩

/-- The column tile of a point. -/
def colTile (t : Fin cfg1.N) : Fin 10 := ⟨t.val % 10, Nat.mod_lt _ (by omega)⟩

theorem coordR (t : Fin cfg1.N) : (BitVec.ofNat 32 (grid1.coords t 0).val).toNat = t.val / 10 := by
  have ht : t.val < 60 := Nat.lt_of_lt_of_eq t.isLt N1
  rw [BitVec.toNat_ofNat, coord0]
  exact Nat.mod_eq_of_lt (by omega)

theorem coordC (t : Fin cfg1.N) : (BitVec.ofNat 32 (grid1.coords t 1).val).toNat = t.val % 10 := by
  rw [BitVec.toNat_ofNat, coord1]
  exact Nat.mod_eq_of_lt (by omega)

theorem index1_0 (t : Fin cfg1.N) : win1_0.index t 0 = t.val / 10 ∧ win1_0.index t 1 = 0 := ⟨coordR t, rfl⟩
theorem index1_1 (t : Fin cfg1.N) : win1_1.index t 0 = 0 ∧ win1_1.index t 1 = t.val % 10 := ⟨rfl, coordC t⟩
theorem index1_2 (t : Fin cfg1.N) : win1_2.index t 0 = t.val / 10 ∧ win1_2.index t 1 = 0 := ⟨coordR t, rfl⟩
theorem index1_3 (t : Fin cfg1.N) : win1_3.index t 0 = 0 ∧ win1_3.index t 1 = t.val % 10 := ⟨rfl, coordC t⟩
theorem index1_4 (t : Fin cfg1.N) : win1_4.index t 0 = t.val / 10 ∧ win1_4.index t 1 = t.val % 10 := ⟨coordR t, coordC t⟩
theorem index1_5 (t : Fin cfg1.N) : win1_5.index t 0 = 0 ∧ win1_5.index t 1 = 0 := ⟨rfl, rfl⟩
theorem index1_6 (t : Fin cfg1.N) : win1_6.index t 0 = t.val / 10 ∧ win1_6.index t 1 = t.val % 10 := ⟨coordR t, coordC t⟩
theorem index1_7 (t : Fin cfg1.N) : win1_7.index t 0 = t.val / 10 ∧ win1_7.index t 1 = 0 := ⟨coordR t, rfl⟩
theorem index1_8 (t : Fin cfg1.N) : win1_8.index t 0 = t.val / 10 ∧ win1_8.index t 1 = 0 := ⟨coordR t, rfl⟩

theorem iblk1_0_at (t : Fin cfg1.N) (i : Fin 512) (q : Fin 15744) : (iblk1 V c 0 t : Vec Ideal S512x15744 .fp8e4m3) (ix2 i q) = qIn V c (ix2 (rowTok t i) q) := by
  unfold iblk1
  rw [View.read_apply]
  show V c main_v1_0 _ = V c main_v1_0 _
  refine congrArg (V c main_v1_0) (funext fun a => Fin.ext ?_)
  match a with
  | ⟨0, _⟩ => show win1_0.index t 0 * 512 + 1 * i.val = t.val / 10 * 512 + i.val; rw [(index1_0 t).1]; omega
  | ⟨1, _⟩ => show win1_0.index t 1 * 15744 + 1 * q.val = q.val; rw [(index1_0 t).2]; omega

theorem iblk1_1_at (t : Fin cfg1.N) (q : Fin 15744) (j : Fin 512) : (iblk1 V c 1 t : Vec Ideal S15744x512 .fp8e4m3) (ix2 q j) = wIn V c (ix2 q (col (colTile t) j)) := by
  unfold iblk1
  rw [View.read_apply]
  show V c main_arg1 _ = V c main_arg1 _
  refine congrArg (V c main_arg1) (funext fun a => Fin.ext ?_)
  match a with
  | ⟨0, _⟩ => show win1_1.index t 0 * 15744 + 1 * q.val = q.val; rw [(index1_1 t).1]; omega
  | ⟨1, _⟩ => show win1_1.index t 1 * 512 + 1 * j.val = t.val % 10 * 512 + j.val; rw [(index1_1 t).2]; omega

theorem iblk1_2_at (t : Fin cfg1.N) (i : Fin 512) : (iblk1 V c 2 t : Vec Ideal S512x1 .f32) (ix2 i 0) = sIn V c (ix2 (rowTok t i) 0) := by
  unfold iblk1
  rw [View.read_apply]
  show V c main_v1_1 _ = V c main_v1_1 _
  refine congrArg (V c main_v1_1) (funext fun a => Fin.ext ?_)
  match a with
  | ⟨0, _⟩ => show win1_2.index t 0 * 512 + 1 * i.val = t.val / 10 * 512 + i.val; rw [(index1_2 t).1]; omega
  | ⟨1, _⟩ => show win1_2.index t 1 * 1 + 1 * 0 = 0; rw [(index1_2 t).2]

theorem iblk1_3_at (t : Fin cfg1.N) (j : Fin 512) : (iblk1 V c 3 t : Vec Ideal S1x512 .f32) (ix2 0 j) = wsIn V c (ix2 0 (col (colTile t) j)) := by
  unfold iblk1
  rw [View.read_apply]
  show V c main_v2 _ = V c main_v2 _
  refine congrArg (V c main_v2) (funext fun a => Fin.ext ?_)
  match a with
  | ⟨0, _⟩ => show win1_3.index t 0 * 1 + 1 * 0 = 0; rw [(index1_3 t).1]
  | ⟨1, _⟩ => show win1_3.index t 1 * 512 + 1 * j.val = t.val % 10 * 512 + j.val; rw [(index1_3 t).2]; omega

theorem iblk1_4_at (t : Fin cfg1.N) (i j : Fin 512) : (iblk1 V c 4 t : Vec Ideal S512x512 .bf16) (ix2 i j) = rIn V c (ix2 (rowTok t i) (col (colTile t) j)) := by
  unfold iblk1
  rw [View.read_apply]
  show V c main_v3 _ = V c main_v3 _
  refine congrArg (V c main_v3) (funext fun a => Fin.ext ?_)
  match a with
  | ⟨0, _⟩ => show win1_4.index t 0 * 512 + 1 * i.val = t.val / 10 * 512 + i.val; rw [(index1_4 t).1]; omega
  | ⟨1, _⟩ => show win1_4.index t 1 * 512 + 1 * j.val = t.val % 10 * 512 + j.val; rw [(index1_4 t).2]; omega

theorem iblk1_5_at (t : Fin cfg1.N) (j : Fin 5120) : (iblk1 V c 5 t : Vec Ideal S1x5120 .bf16) (ix2 0 j) = gIn V c (ix2 0 j) := by
  unfold iblk1
  rw [View.read_apply]
  show V c main_v4 _ = V c main_v4 _
  refine congrArg (V c main_v4) (funext fun a => Fin.ext ?_)
  match a with
  | ⟨0, _⟩ => show win1_5.index t 0 * 1 + 1 * 0 = 0; rw [(index1_5 t).1]
  | ⟨1, _⟩ => show win1_5.index t 1 * 5120 + 1 * j.val = j.val; rw [(index1_5 t).2]; omega

/-! ## A point's tile, a row of tiles and its sums of squares -/

theorem tile_eq (t : Fin cfg1.N) (i j : Fin 512) :
    tile (iblk1 V c 0 t) (iblk1 V c 1 t) (iblk1 V c 2 t) (iblk1 V c 3 t) (iblk1 V c 4 t) i j = kres V c (rowTok t i) (col (colTile t) j) := by
  unfold tile kres
  rw [iblk1_2_at, iblk1_3_at, iblk1_4_at]
  simp only [iblk1_0_at, iblk1_1_at]

theorem slice_ld (x0 : Vec Ideal S512x15744 .fp8e4m3) (x1 : Vec Ideal S15744x512 .fp8e4m3) (x2 : Vec Ideal S512x1 .f32)
    (x3 : Vec Ideal S1x512 .f32) (x4 : Vec Ideal S512x512 .bf16) (i j : Fin 512) :
    k1_pay30 (F := Ideal) (View.ld x0 q0) (View.ld x1 q1) (View.ld x2 rcol) (View.ld x3 q3) (View.ld x4 q4) (ix3 0 i j) = tile x0 x1 x2 x3 x4 i j := by
  rw [View.ld_unit_zero zero2, View.ld_unit_zero zero2, View.ld_unit_zero zero2, View.ld_unit_zero zero2, View.ld_unit_zero zero2]
  exact slice_at _ _ _ _ _ i j

theorem rowAt_at (t : Fin cfg1.N) (k : Fin 10) (i j : Fin 512) : rowAt V c t (ix3 k i j) = kres V c (rowTok t i) (col k j) := by
  have e : inSlice (ix3 k i j) = ix3 0 i j := by
    funext a
    match a with
    | ⟨0, _⟩ => rfl
    | ⟨1, _⟩ => rfl
    | ⟨2, _⟩ => rfl
  have e1 : rowTok (rowPt t k) i = rowTok t i := Fin.ext (by show (t.val / 10 * 10 + k.val) / 10 * 512 + i.val = t.val / 10 * 512 + i.val; omega)
  have e2 : colTile (rowPt t k) = k := Fin.ext (by show (t.val / 10 * 10 + k.val) % 10 = k.val; omega)
  show pAt V c (rowPt t k) (inSlice (ix3 k i j)) = _
  rw [e]
  refine (slice_ld _ _ _ _ _ i j).trans ?_
  rw [tile_eq, e1, e2]

/-- The sum of the squares of a token's residual in column tile `k`. -/
def sq (p : Fin 3072) (k : ℕ) : EReal := if h : k < 10 then ∑ j : Fin 512, kres V c p (col ⟨k, h⟩ j) * kres V c p (col ⟨k, h⟩ j) else 0

theorem sq_point (t : Fin cfg1.N) (i : Fin 512) : (∑ j, tile (iblk1 V c 0 t) (iblk1 V c 1 t) (iblk1 V c 2 t) (iblk1 V c 3 t) (iblk1 V c 4 t) i j
      * tile (iblk1 V c 0 t) (iblk1 V c 1 t) (iblk1 V c 2 t) (iblk1 V c 3 t) (iblk1 V c 4 t) i j) = sq V c (rowTok t i) (t.val % 10) := by
  unfold sq
  rw [dif_pos (Nat.mod_lt _ (by omega))]
  exact Finset.sum_congr rfl fun j _ => by rw [tile_eq]; rfl

/-- After a point the sums of squares run over the tiles of its row so far. -/
theorem ssAt_at (i : Fin 512) : ∀ (n : ℕ) (h : n < cfg1.N), ssAt V c n h (ix2 i 0) = ∑ k ∈ Finset.range (n % 10 + 1), sq V c (rowTok ⟨n, h⟩ i) k := by
  intro n
  induction n with
  | zero =>
    intro h
    refine (congrFun (ssAt_first V c ⟨0, h⟩ rfl) _).trans ?_
    rw [ssFirst_at, sq_point]
    show _ = ∑ k ∈ Finset.range 1, _
    rw [Finset.sum_range_one]
    rfl
  | succ n ih =>
    intro h
    by_cases h0 : (n + 1) % 10 = 0
    · refine (congrFun (ssAt_first V c ⟨n + 1, h⟩ h0) _).trans ?_
      rw [ssFirst_at, sq_point]
      show sq V c _ ((n + 1) % 10) = _
      rw [h0, Finset.sum_range_one]
    · refine (congrFun (ssAt_next V c ⟨n + 1, h⟩ h0) _).trans ?_
      rw [ssNext_at, sq_point]
      have e : (n + 1) % 10 = n % 10 + 1 := by omega
      have e1 : rowTok ⟨n + 1, h⟩ i = rowTok ⟨n, Nat.lt_of_succ_lt h⟩ i := Fin.ext (by show (n + 1) / 10 * 512 + i.val = n / 10 * 512 + i.val; omega)
      show ssAt V c n _ (ix2 i 0) + sq V c _ ((n + 1) % 10) = _
      rw [ih (Nat.lt_of_succ_lt h), e1, e, Finset.sum_range_succ _ (n % 10 + 1)]

/-- After the last point of a row they are the whole row's. -/
theorem ssAt_last (t : Fin cfg1.N) (h9 : t.val % 10 = 9) (i : Fin 512) :
    ssAt V c t.val t.isLt (ix2 i 0) = ∑ j : Fin 5120, kres V c (rowTok t i) j * kres V c (rowTok t i) j := by
  rw [ssAt_at, h9, sum_slabs, Finset.sum_range]
  refine Finset.sum_congr rfl fun k _ => ?_
  unfold sq
  rw [dif_pos k.isLt]

section Last
variable (t : Fin cfg1.N) (h9 : t.val % 10 = 9) (i j : Fin 512)
include h9

theorem cell_last (k : Fin 10) : cellOf (iblk1 V c 5 t) (rowAt V c t) (ssAt V c t.val t.isLt) i j k = knorm V c (rowTok t i) (col k j) := by
  unfold cellOf knorm normed
  rw [rowAt_at, ssAt_last V c t h9, iblk1_5_at]

theorem ratio_last : rowRatio (iblk1 V c 5 t) (rowAt V c t) (ssAt V c t.val t.isLt) i = ratio (knorm V c (rowTok t i)) := by
  unfold rowRatio ratio topOf
  rw [sup_slabs]
  simp only [cell_last V c t h9]

theorem code_last (k : Fin 10) : codeOf (iblk1 V c 5 t) (rowAt V c t) (ssAt V c t.val t.isLt) i j k = kCode (knorm V c (rowTok t i)) (col k j) := by
  unfold codeOf kCode
  rw [cell_last V c t h9, ratio_last V c t h9]

end Last

/-! ## The arrays -/

/-- The residual. -/
def resArr : Vec Ideal S3072x5120 .bf16 := fun y => kres V c (y 0) (y 1)
/-- The codes of the normalised rows. -/
def yArr : Vec Ideal S3072x5120 .fp8e4m3 := fun y => kCode (knorm V c (y 0)) (y 1)
/-- Their scales. -/
def ysArr : Vec Ideal S3072x1 .f32 := fun y => Scale.kScale (ratio (knorm V c (y 0)))

theorem emb1_6 (t : Fin cfg1.N) (i j : Fin 512) : (win1_6.rect t).emb (ix2 i j) = ix2 (rowTok t i) (col (colTile t) j) := by
  refine funext fun a => Fin.ext ?_
  match a with
  | ⟨0, _⟩ => show win1_6.index t 0 * 512 + 1 * i.val = t.val / 10 * 512 + i.val; rw [(index1_6 t).1]; omega
  | ⟨1, _⟩ => show win1_6.index t 1 * 512 + 1 * j.val = t.val % 10 * 512 + j.val; rw [(index1_6 t).2]; omega

theorem emb1_7 (t : Fin cfg1.N) (i : Fin 512) (j : Fin 5120) : (win1_7.rect t).emb (ix2 i j) = ix2 (rowTok t i) j := by
  refine funext fun a => Fin.ext ?_
  match a with
  | ⟨0, _⟩ => show win1_7.index t 0 * 512 + 1 * i.val = t.val / 10 * 512 + i.val; rw [(index1_7 t).1]; omega
  | ⟨1, _⟩ => show win1_7.index t 1 * 5120 + 1 * j.val = j.val; rw [(index1_7 t).2]; omega

theorem emb1_8 (t : Fin cfg1.N) (i : Fin 512) : (win1_8.rect t).emb (ix2 i 0) = ix2 (rowTok t i) 0 := by
  refine funext fun a => Fin.ext ?_
  match a with
  | ⟨0, _⟩ => show win1_8.index t 0 * 512 + 1 * i.val = t.val / 10 * 512 + i.val; rw [(index1_8 t).1]; omega
  | ⟨1, _⟩ => show win1_8.index t 1 * 1 + 1 * 0 = 0; rw [(index1_8 t).2]

theorem flushed1_6 (t : Fin cfg1.N) : (dat1 V c).flushed 6 t = ((cfg1.win 6).blk t).view.read (Elt Ideal) (resArr V c) := by
  funext y
  obtain ⟨i, j, rfl⟩ : ∃ i j : Fin 512, y = ix2 i j := ⟨y 0, y 1, eq_ix2 y⟩
  show (dat1 V c).after 6 t (ix2 i j) = resArr V c ((win1_6.rect t).emb (ix2 i j))
  rw [emb1_6, after1_6]
  refine (rTile_at _ _ _ _ _ i j).trans ?_
  rw [tile_eq]
  rfl

theorem flushed1_7 (t : Fin cfg1.N) (h9 : t.val % 10 = 9) : (dat1 V c).flushed 7 t = ((cfg1.win 7).blk t).view.read (Elt Ideal) (yArr V c) := by
  funext y
  obtain ⟨i, j, rfl⟩ : ∃ (i : Fin 512) (j : Fin 5120), y = ix2 i j := ⟨y 0, y 1, eq_ix2 y⟩
  obtain ⟨k, j, rfl⟩ : ∃ (k : Fin 10) (l : Fin 512), j = col k l :=
    ⟨⟨j.val / 512, by have := j.isLt; omega⟩, ⟨j.val % 512, Nat.mod_lt _ (by omega)⟩, Fin.ext (by show j.val = j.val / 512 * 512 + j.val % 512; omega)⟩
  show (dat1 V c).after 7 t (ix2 i (col k j)) = yArr V c ((win1_7.rect t).emb (ix2 i (col k j)))
  rw [emb1_7, after1_7]
  refine (yOut_at _ _ _ i j k).trans ?_
  rw [code_last V c t h9]
  rfl

theorem flushed1_8 (t : Fin cfg1.N) (h9 : t.val % 10 = 9) : (dat1 V c).flushed 8 t = ((cfg1.win 8).blk t).view.read (Elt Ideal) (ysArr V c) := by
  funext y
  obtain ⟨i, rfl⟩ : ∃ i : Fin 512, y = ix2 i (0 : Fin 1) := ⟨y 0, (eq_ix2 y).trans (congrArg (ix2 (y 0)) (Subsingleton.elim (α := Fin 1) _ _))⟩
  show (dat1 V c).after 8 t (ix2 i 0) = ysArr V c ((win1_8.rect t).emb (ix2 i 0))
  rw [emb1_8, after1_8]
  refine (ysOut_at _ _ _ i).trans ?_
  rw [ratio_last V c t h9]
  rfl

/-- The point of row block `a` and column tile `b`. -/
def pointOf (a b : ℕ) (ha : a < 6) (hb : b < 10) : Fin cfg1.N := ⟨a * 10 + b, Nat.lt_of_lt_of_eq (by omega) N1.symm⟩

theorem res_arr : (dat1 V c).arrAt 6 cfg1.N = resArr V c :=
  (dat1 V c).arrAt_eq_of_cover 6 (resArr V c) (fun t _ => flushed1_6 V c t) fun i => by
    have h0 : (i 0 : Nat) < 3072 := (i 0).isLt
    have h1 : (i 1 : Nat) < 5120 := (i 1).isLt
    have ha : (i 0 : Nat) / 512 < 6 := by omega
    have hb : (i 1 : Nat) / 512 < 10 := by omega
    refine ⟨pointOf ((i 0 : Nat) / 512) ((i 1 : Nat) / 512) ha hb, flush1_6 _, ?_⟩
    show i ∈ ((View.whole main_v5_0).slice (win1_6.rect (pointOf ((i 0 : Nat) / 512) ((i 1 : Nat) / 512) ha hb))).set
    rw [View.set_slice_whole, Rect.mem_set_unit]
    intro a
    match a with
    | ⟨0, _⟩ => show win1_6.index _ 0 * 512 ≤ (i 0 : Nat) ∧ (i 0 : Nat) < win1_6.index _ 0 * 512 + 512
                rw [(index1_6 _).1]
                show ((i 0 : Nat) / 512 * 10 + (i 1 : Nat) / 512) / 10 * 512 ≤ (i 0 : Nat) ∧ (i 0 : Nat) < ((i 0 : Nat) / 512 * 10 + (i 1 : Nat) / 512) / 10 * 512 + 512
                omega
    | ⟨1, _⟩ => show win1_6.index _ 1 * 512 ≤ (i 1 : Nat) ∧ (i 1 : Nat) < win1_6.index _ 1 * 512 + 512
                rw [(index1_6 _).2]
                show ((i 0 : Nat) / 512 * 10 + (i 1 : Nat) / 512) % 10 * 512 ≤ (i 1 : Nat) ∧ (i 1 : Nat) < ((i 0 : Nat) / 512 * 10 + (i 1 : Nat) / 512) % 10 * 512 + 512
                omega

theorem y_arr : (dat1 V c).arrAt 7 cfg1.N = yArr V c :=
  (dat1 V c).arrAt_eq_of_cover 7 (yArr V c) (fun t h => flushed1_7 V c t ((flush1_7 t).mp h)) fun i => by
    have h0 : (i 0 : Nat) < 3072 := (i 0).isLt
    have h1 : (i 1 : Nat) < 5120 := (i 1).isLt
    have ha : (i 0 : Nat) / 512 < 6 := by omega
    have hb : 9 < 10 := by decide
    refine ⟨pointOf ((i 0 : Nat) / 512) 9 ha hb, (flush1_7 _).mpr (by show ((i 0 : Nat) / 512 * 10 + 9) % 10 = 9; omega), ?_⟩
    show i ∈ ((View.whole main_v5_1).slice (win1_7.rect (pointOf ((i 0 : Nat) / 512) 9 ha hb))).set
    rw [View.set_slice_whole, Rect.mem_set_unit]
    intro a
    match a with
    | ⟨0, _⟩ => show win1_7.index _ 0 * 512 ≤ (i 0 : Nat) ∧ (i 0 : Nat) < win1_7.index _ 0 * 512 + 512
                rw [(index1_7 _).1]
                show ((i 0 : Nat) / 512 * 10 + 9) / 10 * 512 ≤ (i 0 : Nat) ∧ (i 0 : Nat) < ((i 0 : Nat) / 512 * 10 + 9) / 10 * 512 + 512
                omega
    | ⟨1, _⟩ => show win1_7.index _ 1 * 5120 ≤ (i 1 : Nat) ∧ (i 1 : Nat) < win1_7.index _ 1 * 5120 + 5120
                rw [(index1_7 _).2]; omega

theorem ys_arr : (dat1 V c).arrAt 8 cfg1.N = ysArr V c :=
  (dat1 V c).arrAt_eq_of_cover 8 (ysArr V c) (fun t h => flushed1_8 V c t ((flush1_8 t).mp h)) fun i => by
    have h0 : (i 0 : Nat) < 3072 := (i 0).isLt
    have h1 : (i 1 : Nat) < 1 := (i 1).isLt
    have ha : (i 0 : Nat) / 512 < 6 := by omega
    have hb : 9 < 10 := by decide
    refine ⟨pointOf ((i 0 : Nat) / 512) 9 ha hb, (flush1_8 _).mpr (by show ((i 0 : Nat) / 512 * 10 + 9) % 10 = 9; omega), ?_⟩
    show i ∈ ((View.whole main_v5_2).slice (win1_8.rect (pointOf ((i 0 : Nat) / 512) 9 ha hb))).set
    rw [View.set_slice_whole, Rect.mem_set_unit]
    intro a
    match a with
    | ⟨0, _⟩ => show win1_8.index _ 0 * 512 ≤ (i 0 : Nat) ∧ (i 0 : Nat) < win1_8.index _ 0 * 512 + 512
                rw [(index1_8 _).1]
                show ((i 0 : Nat) / 512 * 10 + 9) / 10 * 512 ≤ (i 0 : Nat) ∧ (i 0 : Nat) < ((i 0 : Nat) / 512 * 10 + 9) / 10 * 512 + 512
                omega
    | ⟨1, _⟩ => show win1_8.index _ 1 * 1 ≤ (i 1 : Nat) ∧ (i 1 : Nat) < win1_8.index _ 1 * 1 + 1
                rw [(index1_8 _).2]; omega

end Cert.KernelIdeal.Run

end
-- ==== Proof.RefRows.lean ====
/- What the reference's whole-array operations compute, entry by entry. -/
module

public import proofs.«01_k».proof.Proof.Lanes
public import proofs.«01_k».proof.Proof.Gen.ReferenceIdeal.Skeleton

@[expose] public section

noncomputable section

namespace Cert.RefRows

open Idealize.ShloMosaic Idealize.ShloMosaic.ValueIdx Cert.Rows Cert.Lanes Cert.ReferenceIdeal Cert.ReferenceIdeal.Gen
open scoped BigOperators

/-- The reference's residual row from the codes of `x`, its scale, the weights, their scales and the residual. -/
def resid (X : FVec Ideal S3072x15744 .bf16) (W : FVec Ideal S15744x5120 .fp8e4m3) (ws : FVec Ideal S1x5120 .f32)
    (R : FVec Ideal S3072x5120 .bf16) (i : Fin 3072) (j : Fin 5120) : EReal :=
  (∑ q : Fin 15744, code (fun k => X (ix2 i k)) q * W (ix2 q j)) * Scale.scale (ratio fun k => X (ix2 i k)) * ws (ix2 0 j) + R (ix2 i j)

theorem ext_apply (X : FVec Ideal S3072x15744 .bf16) (i : Fin 3072) (k : Fin 15744) : k0_pay1 (F := Ideal) X (ix2 i k) = X (ix2 i k) := by
  unfold k0_pay1
  rw [shapeCast_self]
  exact extf_at _ _ _

theorem e_apply (X : FVec Ideal S3072x15744 .bf16) (i : Fin 3072) :
    k0_pay2 (F := Ideal) X (ix2 i 0) = Scale.refE (ratio fun k => X (ix2 i k)) := by
  unfold k0_pay2
  dsimp only
  refine (refE_at _ _).trans (congrArg Scale.refE ?_)
  rw [mulf_at, broadcast_at, ofBits_eq, castCol]
  refine (congrArg (fun m => m * Ideal.ofBits .f32 0x3B124925#32) (rowMax _ _ _ _ _ ninf_f32 i)).trans ?_
  simp only [absf_at, ext_apply]
  unfold ratio
  with_reducible rfl

theorem codes_apply (X : FVec Ideal S3072x15744 .bf16) (i : Fin 3072) (k : Fin 15744) :
    k0_pay3 (F := Ideal) X (ix2 i k) = code (fun k => X (ix2 i k)) k := by
  unfold k0_pay3
  rw [truncf_at]
  refine (clip_at _ _).trans ?_
  rw [mulf_at, ext_apply, bcastCol, exp2_at, subf_at, broadcast_at, ofBits_eq, e_apply]
  unfold code Scale.inv
  with_reducible rfl

theorem scale_apply (X : FVec Ideal S3072x15744 .bf16) (i : Fin 3072) :
    k0_pay4 (F := Ideal) X (ix2 i 0) = Scale.scale (ratio fun k => X (ix2 i k)) := by
  unfold k0_pay4
  rw [exp2_at, e_apply]
  unfold Scale.scale
  with_reducible rfl

theorem dot_eq (L : FVec Ideal S3072x15744 .fp8e4m3) (W : FVec Ideal S15744x5120 .fp8e4m3) (i : Fin 3072) (j : Fin 5120) :
    matmul dot_S3072x15744_S15744x5120_S3072x5120_1_0_0_1_n_n none L W (constant S3072x5120 .f32 0x00000000#32) (ix2 i j)
      = ∑ q : Fin 15744, L (ix2 i q) * W (ix2 q j) :=
  dot_apply _ rfl rfl (fun _ _ => ⟨rfl, rfl⟩) (fun _ _ => ⟨rfl, rfl⟩) none L W i j

theorem resid_apply (X : FVec Ideal S3072x15744 .bf16) (W : FVec Ideal S15744x5120 .fp8e4m3) (ws : FVec Ideal S1x5120 .f32)
    (R : FVec Ideal S3072x5120 .bf16) (i : Fin 3072) (j : Fin 5120) :
    k0_pay5 (F := Ideal) X W ws R (ix2 i j) = resid X W ws R i j := by
  unfold k0_pay5
  rw [shapeCast_self, shapeCast_self]
  rw [addf_at, mulf_at, mulf_at, extf_at, bcastCol, bcastRow, scale_apply, dot_eq]
  simp only [codes_apply]
  unfold resid
  with_reducible rfl

variable (r : FVec Ideal S3072x5120 .f32) (g : FVec Ideal S1x5120 .bf16)

theorem normed_apply (i : Fin 3072) (j : Fin 5120) :
    k0_pay7 (F := Ideal) r g (ix2 i j) = normed (fun k => r (ix2 i k)) (fun k => g (ix2 0 k)) j := by
  unfold k0_pay7 k0_pay6
  rw [shapeCast_self]
  dsimp only
  rw [mulf_at, mulf_at, bcastCol, bcastRow, rsqrt_at, addf_at, divf_at, broadcast_at, broadcast_at, ofBits_eq, ofBits_eq, castCol]
  have h := rowSum (mulf (extf .f32 (truncf .bf16 r bitsLt_bf16_f32) bitsLt_bf16_f32) (extf .f32 (truncf .bf16 r bitsLt_bf16_f32) bitsLt_bf16_f32))
    0x00000000#32 reduces_S3072x5120_S3072 (.inl rfl) rfl i
  simp only [mulf_at, extf_at, truncf_at] at h ⊢
  unfold normed rms
  rw [← h]

theorem ye_apply (i : Fin 3072) : k0_pay8 (F := Ideal) r g (ix2 i 0)
    = Scale.refE (ratio (normed (fun k => r (ix2 i k)) (fun k => g (ix2 0 k)))) := by
  unfold k0_pay8
  dsimp only
  refine (refE_at _ _).trans (congrArg Scale.refE ?_)
  rw [mulf_at, broadcast_at, ofBits_eq, castCol]
  refine (congrArg (fun m => m * Ideal.ofBits .f32 0x3B124925#32) (rowMax _ _ _ _ _ ninf_f32 i)).trans ?_
  simp only [absf_at, normed_apply]
  unfold ratio
  with_reducible rfl

theorem ycodes_apply (i : Fin 3072) (j : Fin 5120) : k0_pay9 (F := Ideal) r g (ix2 i j)
    = code (normed (fun k => r (ix2 i k)) (fun k => g (ix2 0 k))) j := by
  unfold k0_pay9
  rw [truncf_at]
  refine (clip_at _ _).trans ?_
  rw [mulf_at, normed_apply, bcastCol, exp2_at, subf_at, broadcast_at, ofBits_eq, ye_apply]
  unfold code Scale.inv
  with_reducible rfl

theorem ys_apply (i : Fin 3072) : k0_pay10 (F := Ideal) r g (ix2 i 0)
    = Scale.scale (ratio (normed (fun k => r (ix2 i k)) (fun k => g (ix2 0 k)))) := by
  unfold k0_pay10
  rw [exp2_at, ye_apply]
  unfold Scale.scale
  with_reducible rfl

end Cert.RefRows

end
-- ==== Proof.Bounds.lean ====
/- With every entry of the tokens and of gamma a finite bf16 number, the two ratios a row is scaled by stay below 2^126, so that
   the kernel's exponent search and the reference's logarithm give the same power of two. -/
module

public import proofs.«01_k».proof.Proof.Rows

@[expose] public section

noncomputable section

namespace Cert.Bounds

open Idealize.ShloMosaic Cert.Rows
open scoped BigOperators

/-- The largest finite bf16 number. -/
def big : ℝ := 255 / 128 * 2 ^ (127 : ℕ)

theorem bits_big : Ideal.ofBits .bf16 0x7F7F#16 = (big : EReal) := by
  simp [big, Ideal.ofBits, Ideal.ieee, -EReal.coe_mul]
  norm_num

/-- The constant written for 1/448. -/
def inv448 : ℝ := 9586981 / 2 ^ (32 : ℕ)

theorem bits_inv448 : Ideal.ofBits .f32 0x3B124925#32 = (inv448 : EReal) := by
  simp [inv448, Ideal.ofBits, Ideal.ieee, -EReal.coe_mul]
  norm_num

theorem bits_5120 : Ideal.ofBits .f32 0x45A00000#32 = ((5120 : ℝ) : EReal) := by
  simp [Ideal.ofBits, Ideal.ieee, -EReal.coe_mul]
  norm_num

/-- The constant written for 1e-6. -/
def eps : ℝ := 8796093 / 2 ^ (43 : ℕ)

theorem bits_eps : Ideal.ofBits .f32 0x358637BD#32 = (eps : EReal) := by
  simp [eps, Ideal.ofBits, Ideal.ieee, -EReal.coe_mul]
  norm_num

theorem mag_coe (x : ℝ) : mag (x : EReal) = ((|x| : ℝ) : EReal) := by
  unfold mag
  rw [← EReal.coe_neg]
  exact (EReal.coe_strictMono.monotone.map_max (a := x) (b := -x)).symm

theorem real_of_mag {x : EReal} {B : ℝ} (h : mag x ≤ (B : EReal)) : ∃ r : ℝ, x = (r : EReal) ∧ |r| ≤ B := by
  induction x with
  | bot => exact absurd h (by simp [mag])
  | top => exact absurd h (by simp [mag])
  | coe r => exact ⟨r, rfl, by rw [mag_coe] at h; exact EReal.coe_le_coe_iff.mp h⟩

theorem ratio_nonneg {n : ℕ} (f : Fin (n + 1) → EReal) : 0 ≤ ratio f := by
  unfold ratio
  rw [bits_inv448]
  refine mul_nonneg ((mag_nonneg (f 0)).trans (Finset.le_sup (f := fun k => mag (f k)) (Finset.mem_univ 0))) ?_
  exact EReal.coe_nonneg.mpr (by unfold inv448; positivity)

theorem ratio_lt {n : ℕ} (f : Fin n → EReal) (B : ℝ) (h : ∀ k, mag (f k) ≤ (B : EReal)) (hB : B * inv448 < 2 ^ (126 : ℤ)) :
    ratio f < (((2 : ℝ) ^ (126 : ℤ) : ℝ) : EReal) := by
  unfold ratio
  rw [bits_inv448]
  refine lt_of_le_of_lt (mul_le_mul_of_nonneg_right (Finset.sup_le fun k _ => h k) ?_) ?_
  · exact EReal.coe_nonneg.mpr (by unfold inv448; positivity)
  · rw [← EReal.coe_mul]
    exact EReal.coe_lt_coe_iff.mpr hB

/-- A row of finite bf16 numbers. -/
theorem ratio_lt_tokens {n : ℕ} (f : Fin n → EReal) (h : ∀ k, mag (f k) ≤ (big : EReal)) :
    ratio f < (((2 : ℝ) ^ (126 : ℤ) : ℝ) : EReal) :=
  ratio_lt f big h (by unfold big inv448; norm_num)

theorem sq_nonneg' (x : EReal) : 0 ≤ x * x := by
  induction x with
  | bot => simp
  | top => simp
  | coe r => rw [← EReal.coe_mul]; exact EReal.coe_nonneg.mpr (mul_self_nonneg r)

/-- An entry of a row over the row's root mean square is at most √5120 < 72 in magnitude, and 0 when the row's sum of squares is
    infinite. -/
theorem unit_bound (r : Fin 5120 → EReal) (k : Fin 5120) : mag (r k * rms (∑ j, r j * r j)) ≤ ((72 : ℝ) : EReal) := by
  have heps : 0 < eps := by unfold eps; positivity
  have hle : ∀ j, r j * r j ≤ ∑ j, r j * r j := fun j => Finset.single_le_sum (f := fun j => r j * r j) (fun i _ => sq_nonneg' (r i)) (Finset.mem_univ j)
  by_cases hS : ∑ j, r j * r j = ⊤
  · rw [hS]
    have h0 : rms ⊤ = 0 := by
      unfold rms
      rw [bits_5120, bits_eps, Ideal.div_coe (by norm_num), EReal.top_mul_coe_of_pos (by norm_num), EReal.top_add_coe, Ideal.rsqrt_top]
    rw [h0, mul_zero]
    unfold mag
    simp
  · have hr : ∀ j, ∃ x : ℝ, r j = (x : EReal) := by
      intro j
      have := hle j
      generalize r j = y at this
      induction y with
      | bot => exact absurd (top_le_iff.mp (by simpa using this)) hS
      | top => exact absurd (top_le_iff.mp (by simpa using this)) hS
      | coe x => exact ⟨x, rfl⟩
    choose x hx using hr
    have hsum : ∑ j, r j * r j = ((∑ j, x j * x j : ℝ) : EReal) := by
      refine (Finset.sum_congr rfl fun j _ => by rw [hx j, ← EReal.coe_mul]).trans ?_
      exact (map_sum (⟨⟨(fun r : ℝ => (r : EReal)), EReal.coe_zero⟩, EReal.coe_add⟩ : ℝ →+ EReal) (fun j => x j * x j) Finset.univ).symm
    have hs : x k * x k ≤ ∑ j, x j * x j := Finset.single_le_sum (f := fun j => x j * x j) (fun i _ => mul_self_nonneg (x i)) (Finset.mem_univ k)
    have hs0 : 0 ≤ ∑ j, x j * x j := Finset.sum_nonneg fun i _ => mul_self_nonneg (x i)
    rw [hsum, hx k]
    generalize (∑ j, x j * x j) = s at hs hs0
    have hu : 0 < s * (1 / 5120) + eps := by positivity
    have hrms : rms (s : EReal) = (((Real.sqrt (s * (1 / 5120) + eps))⁻¹ : ℝ) : EReal) := by
      unfold rms
      rw [bits_5120, bits_eps, Ideal.div_coe (by norm_num), ← EReal.coe_mul, ← EReal.coe_add, Ideal.rsqrt_coe, if_neg (not_lt.mpr hu.le), if_neg hu.ne']
    rw [hrms, ← EReal.coe_mul, mag_coe]
    refine EReal.coe_le_coe_iff.mpr ?_
    have hq : 0 < Real.sqrt (s * (1 / 5120) + eps) := Real.sqrt_pos.mpr hu
    have hq2 : Real.sqrt (s * (1 / 5120) + eps) ^ 2 = s * (1 / 5120) + eps := Real.sq_sqrt hu.le
    rw [← div_eq_mul_inv, abs_div, abs_of_pos hq, div_le_iff₀ hq]
    refine abs_le_of_sq_le_sq (a := x k) ?_ (by positivity)
    rw [mul_pow, hq2]
    nlinarith

/-- The normalised row, gamma a row of finite bf16 numbers. -/
theorem ratio_lt_normed (r g : Fin 5120 → EReal) (hg : ∀ k, mag (g k) ≤ (big : EReal)) :
    ratio (normed r g) < (((2 : ℝ) ^ (126 : ℤ) : ℝ) : EReal) := by
  refine ratio_lt _ (72 * big) (fun k => ?_) (by unfold big inv448; norm_num)
  obtain ⟨y, hy, hyb⟩ := real_of_mag (unit_bound r k)
  obtain ⟨z, hz, hzb⟩ := real_of_mag (hg k)
  unfold normed
  rw [hy, hz, ← EReal.coe_mul, mag_coe]
  refine EReal.coe_le_coe_iff.mpr ?_
  rw [abs_mul]
  exact mul_le_mul hyb hzb (abs_nonneg _) (by norm_num)

/-! ## So the kernel's codes and scales are the reference's -/

theorem kScale_eq {n : ℕ} (f : Fin (n + 1) → EReal) (h : ratio f < (((2 : ℝ) ^ (126 : ℤ) : ℝ) : EReal)) :
    Scale.kScale (ratio f) = Scale.scale (ratio f) := Scale.kScale_eq _ (ratio_nonneg f) h

theorem kCode_eq {n : ℕ} (f : Fin (n + 1) → EReal) (h : ratio f < (((2 : ℝ) ^ (126 : ℤ) : ℝ) : EReal)) (k : Fin (n + 1)) :
    kCode f k = code f k := by
  unfold kCode code
  rw [Scale.kInv_eq _ (ratio_nonneg f) h]

/-- What the finiteness check says of one entry. -/
theorem mag_le_of_check {x : EReal} (h : Ideal.cmp .ole (max x (-x)) (Ideal.ofBits .bf16 0x7F7F#16) = 1#1) : mag x ≤ (big : EReal) := by
  rw [bits_big] at h
  by_contra hn
  have : Ideal.cmp .ole (max x (-x)) (big : EReal) = 0#1 := by
    simp only [Ideal.cmp]
    unfold mag at hn
    simp [hn]
  rw [this] at h
  exact absurd h (by decide)

end Cert.Bounds

end
-- ==== Proof.KernelValue.lean ====
/- What the kernel's run leaves in its five result arrays, entry by entry, of the arrays it is launched with: for finite tokens
   and gamma, the reference's formulas. -/
module

public import proofs.«01_k».proof.Proof.QuantArrayIdeal
public import proofs.«01_k».proof.Proof.ProjArrayIdeal
public import proofs.«01_k».proof.Proof.RunIdeal
public import proofs.«01_k».proof.Proof.RefRows
public import proofs.«01_k».proof.Proof.Bounds

@[expose] public section

set_option maxRecDepth 16384

noncomputable section

namespace Cert.KernelIdeal.Run

open Idealize.ShloMosaic Idealize.SL.Sem Idealize.ShloMosaic.TcCoe Idealize.ShloMosaic.ValueIdx Cert.Rows Cert.KernelIdeal.Gen Cert.Bounds
open Cert.RefRows (resid)

variable (m : (ℓ : Loc nD τ sig) → Buf (Elt Ideal) ℓ) (ρ : Dev nD → PrngReg) (c : Dev nD)

/-! ## The launched arrays, as the host reshapes them -/

abbrev X : Vec Ideal S3072x15744 .bf16 := shapeCast S3072x15744 (m ((c : Thread nD τ).loc main_arg0) : Vec Ideal S2x1536x15744 .bf16) shapeCasts_S2x1536x15744_S3072x15744
abbrev Wt : Vec Ideal S15744x5120 .fp8e4m3 := m ((c : Thread nD τ).loc main_arg1)
abbrev WS : Vec Ideal S1x5120 .f32 := shapeCast S1x5120 (m ((c : Thread nD τ).loc main_arg2) : Vec Ideal S5120 .f32) shapeCasts_S5120_S1x5120
abbrev Res : Vec Ideal S3072x5120 .bf16 := shapeCast S3072x5120 (m ((c : Thread nD τ).loc main_arg3) : Vec Ideal S2x1536x5120 .bf16) shapeCasts_S2x1536x5120_S3072x5120
abbrev G : Vec Ideal S1x5120 .bf16 := shapeCast S1x5120 (m ((c : Thread nD τ).loc main_arg4) : Vec Ideal S5120 .bf16) shapeCasts_S5120_S1x5120

theorem V1_v0 : V1 m ρ c main_v0 = X m c := by
  show StableHlo.after hostOps0 (W0 m ρ c) (Proc.devRef .tc main_v0) = _
  simp only [hostOps0, StableHlo.after_cons, StableHlo.after_nil]
  exact StableHlo.reshape_result main_arg0 main_v0 rfl shapeCasts_S2x1536x15744_S3072x15744 _ _ _

theorem V2_arg (r : Ref sig .tc) (h : r ∈ argRefs) : W2 m ρ c (Proc.devRef .tc r) = m ((c : Thread nD τ).loc r) := W2_args m ρ c r h

theorem V3_v2 : V3 m ρ c main_v2 = WS m c := by
  show StableHlo.after hostOps1 (W2 m ρ c) (Proc.devRef .tc main_v2) = _
  simp only [hostOps1, StableHlo.after_cons, StableHlo.after_nil]
  rw [StableHlo.reshape_result_ne _ _ _ _ _ _ _ (by decide), StableHlo.reshape_result_ne _ _ _ _ _ _ _ (by decide)]
  refine (StableHlo.reshape_result main_arg2 main_v2 rfl shapeCasts_S5120_S1x5120 _ _ _).trans ?_
  rw [V2_arg m ρ c main_arg2 (by decide)]
  rfl

theorem V3_v3 : V3 m ρ c main_v3 = Res m c := by
  show StableHlo.after hostOps1 (W2 m ρ c) (Proc.devRef .tc main_v3) = _
  simp only [hostOps1, StableHlo.after_cons, StableHlo.after_nil]
  rw [StableHlo.reshape_result_ne _ _ _ _ _ _ _ (by decide)]
  refine (StableHlo.reshape_result main_arg3 main_v3 rfl shapeCasts_S2x1536x5120_S3072x5120 _ _ _).trans ?_
  rw [StableHlo.reshape_result_ne _ _ _ _ _ _ _ (by decide), V2_arg m ρ c main_arg3 (by decide)]
  rfl

theorem V3_v4 : V3 m ρ c main_v4 = G m c := by
  show StableHlo.after hostOps1 (W2 m ρ c) (Proc.devRef .tc main_v4) = _
  simp only [hostOps1, StableHlo.after_cons, StableHlo.after_nil]
  refine (StableHlo.reshape_result main_arg4 main_v4 rfl shapeCasts_S5120_S1x5120 _ _ _).trans ?_
  rw [StableHlo.reshape_result_ne _ _ _ _ _ _ _ (by decide), StableHlo.reshape_result_ne _ _ _ _ _ _ _ (by decide), V2_arg m ρ c main_arg4 (by decide)]
  rfl

theorem V3_arg1 : V3 m ρ c main_arg1 = Wt m c := W3_args m ρ c main_arg1 (by decide)

theorem V3_v1_0 : V3 m ρ c main_v1_0 = codesArr (V1 m ρ) c :=
  (W3_of m ρ c main_v1_0 (by decide)).trans ((W2_arr m ρ c 1).trans (codes_arr (V1 m ρ) c))

theorem V3_v1_1 : V3 m ρ c main_v1_1 = scalesArr (V1 m ρ) c :=
  (W3_of m ρ c main_v1_1 (by decide)).trans ((W2_arr m ρ c 2).trans (scales_arr (V1 m ρ) c))

/-! ## The results -/

section Finite
variable (hX : ∀ (p : Fin 3072) (k : Fin 15744), mag (X m c (ix2 p k)) ≤ (big : EReal))
include hX

theorem codes_eq (p : Fin 3072) (q : Fin 15744) : codesArr (V1 m ρ) c (ix2 p q) = code (fun k => X m c (ix2 p k)) q := by
  unfold codesArr tokens
  rw [V1_v0]
  exact kCode_eq (n := 15743) _ (ratio_lt_tokens _ fun k => hX p k) q

theorem scales_eq (p : Fin 3072) : scalesArr (V1 m ρ) c (ix2 p 0) = Scale.scale (ratio fun k => X m c (ix2 p k)) := by
  unfold scalesArr tokens
  rw [V1_v0]
  exact kScale_eq (n := 15743) _ (ratio_lt_tokens _ fun k => hX p k)

theorem kres_eq (p : Fin 3072) (j : Fin 5120) : kres (V3 m ρ) c p j = resid (X m c) (Wt m c) (WS m c) (Res m c) p j := by
  unfold kres qIn wIn sIn wsIn rIn
  rw [V3_v1_0, V3_v1_1, V3_v2, V3_v3, V3_arg1, scales_eq m ρ c hX]
  simp only [codes_eq m ρ c hX]
  rfl

theorem knorm_eq (p : Fin 3072) : knorm (V3 m ρ) c p = normed (resid (X m c) (Wt m c) (WS m c) (Res m c) p) (fun k => G m c (ix2 0 k)) := by
  have e : kres (V3 m ρ) c p = resid (X m c) (Wt m c) (WS m c) (Res m c) p := funext fun j => kres_eq m ρ c hX p j
  unfold knorm gIn
  rw [e, V3_v4]

theorem value_res (p : Fin 3072) (j : Fin 5120) : (W4 m ρ c (Proc.devRef .tc main_v5_0) : Vec Ideal S3072x5120 .bf16) (ix2 p j)
    = resid (X m c) (Wt m c) (WS m c) (Res m c) p j :=
  (congrFun ((W4_arr m ρ c 6).trans (res_arr (V3 m ρ) c)) (ix2 p j)).trans (kres_eq m ρ c hX p j)

theorem value_codes (p : Fin 3072) (q : Fin 15744) : (W4 m ρ c (Proc.devRef .tc main_v1_0) : Vec Ideal S3072x15744 .fp8e4m3) (ix2 p q)
    = code (fun k => X m c (ix2 p k)) q :=
  (congrFun ((W4_of m ρ c main_v1_0 (by decide)).trans (V3_v1_0 m ρ c)) (ix2 p q)).trans (codes_eq m ρ c hX p q)

theorem value_scales (p : Fin 3072) : (W4 m ρ c (Proc.devRef .tc main_v1_1) : Vec Ideal S3072x1 .f32) (ix2 p 0)
    = Scale.scale (ratio fun k => X m c (ix2 p k)) :=
  (congrFun ((W4_of m ρ c main_v1_1 (by decide)).trans (V3_v1_1 m ρ c)) (ix2 p 0)).trans (scales_eq m ρ c hX p)

variable (hG : ∀ k : Fin 5120, mag (G m c (ix2 0 k)) ≤ (big : EReal))
include hG

theorem value_y (p : Fin 3072) (j : Fin 5120) : (W4 m ρ c (Proc.devRef .tc main_v5_1) : Vec Ideal S3072x5120 .fp8e4m3) (ix2 p j)
    = code (normed (resid (X m c) (Wt m c) (WS m c) (Res m c) p) (fun k => G m c (ix2 0 k))) j := by
  refine (congrFun ((W4_arr m ρ c 7).trans (y_arr (V3 m ρ) c)) (ix2 p j)).trans ?_
  show kCode (knorm (V3 m ρ) c p) j = _
  rw [knorm_eq m ρ c hX]
  exact kCode_eq (n := 5119) _ (ratio_lt_normed _ _ hG) j

theorem value_ys (p : Fin 3072) : (W4 m ρ c (Proc.devRef .tc main_v5_2) : Vec Ideal S3072x1 .f32) (ix2 p 0)
    = Scale.scale (ratio (normed (resid (X m c) (Wt m c) (WS m c) (Res m c) p) (fun k => G m c (ix2 0 k)))) := by
  refine (congrFun ((W4_arr m ρ c 8).trans (ys_arr (V3 m ρ) c)) (ix2 p 0)).trans ?_
  show Scale.kScale (ratio (knorm (V3 m ρ) c p)) = _
  rw [knorm_eq m ρ c hX]
  exact kScale_eq (n := 5119) _ (ratio_lt_normed _ _ hG)

end Finite

/-! ## The run -/

/-- Every run ends, the results and the arguments at what the last boundary holds of them. -/
theorem run_values : θ_run defs (onTc (τ := τ) (main (F := Ideal))) ⟨m, fun _ => 0, ρ⟩ (fun r => ∀ c : Dev nD,
      r.2.mem ((c.tc : Thread nD τ).loc main_v5_0) = W4 m ρ c (Proc.devRef .tc main_v5_0)
      ∧ r.2.mem ((c.tc : Thread nD τ).loc main_v1_0) = W4 m ρ c (Proc.devRef .tc main_v1_0)
      ∧ r.2.mem ((c.tc : Thread nD τ).loc main_v1_1) = W4 m ρ c (Proc.devRef .tc main_v1_1)
      ∧ r.2.mem ((c.tc : Thread nD τ).loc main_v5_1) = W4 m ρ c (Proc.devRef .tc main_v5_1)
      ∧ r.2.mem ((c.tc : Thread nD τ).loc main_v5_2) = W4 m ρ c (Proc.devRef .tc main_v5_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun s h c => ⟨h.1 c _ (mem_uc main_v5_0 (by decide)), h.1 c _ (mem_uc main_v1_0 (by decide)),
      h.1 c _ (mem_uc main_v1_1 (by decide)), h.1 c _ (mem_uc main_v5_1 (by decide)), h.1 c _ (mem_uc main_v5_2 (by decide)),
      (h.1 c _ (mem_uc main_arg0 (by decide))).trans (W4_main_arg0 m ρ c), (h.1 c _ (mem_uc main_arg1 (by decide))).trans (W4_main_arg1 m ρ c),
      (h.1 c _ (mem_uc main_arg2 (by decide))).trans (W4_main_arg2 m ρ c), (h.1 c _ (mem_uc main_arg3 (by decide))).trans (W4_main_arg3 m ρ c),
      (h.1 c _ (mem_uc main_arg4 (by decide))).trans (W4_main_arg4 m ρ c)⟩) (run_all m ρ)

end Cert.KernelIdeal.Run

end
-- ==== Proof.RefValue.lean ====
/- The reference's run: what its five result arrays hold, entry by entry, of the arrays it is launched with. -/
module

public import proofs.«01_k».proof.Proof.RefRows
public import proofs.«01_k».proof.Proof.Gen.ReferenceIdeal.Frame
public import Idealize.ShloMosaic.Lib.Pipeline.Value

@[expose] public section

set_option maxRecDepth 16384

noncomputable section

namespace Cert.RefValue

open Idealize.ShloMosaic Idealize.SL.Sem Idealize.ShloMosaic.TcCoe Idealize.ShloMosaic.ValueIdx
open Cert.Rows Cert.RefRows Cert.ReferenceIdeal Cert.ReferenceIdeal.Gen
open Idealize.ShloMosaic.Pipeline (Dat Cfg Window)

/-! ## What the one body leaves in each result block -/

theorem zero2 : (![0, 0] : Fin 2 → Nat) = fun _ => 0 := funext fun a => by fin_cases a <;> rfl

section Body
variable (x0 : Vec Ideal S3072x15744 .bf16) (x1 : Vec Ideal S15744x5120 .fp8e4m3) (x2 : Vec Ideal S1x5120 .f32)
  (x3 : Vec Ideal S3072x5120 .bf16) (x4 : Vec Ideal S1x5120 .bf16)

theorem pay11_at (i : Fin 3072) (j : Fin 5120) : k0_pay11 (F := Ideal) x0 x1 x2 x3 x4 (ix2 i j) = resid x0 x1 x2 x3 i j := by
  unfold k0_pay11
  rw [View.ld_unit_zero zero2, View.ld_unit_zero zero2, View.ld_unit_zero zero2, View.ld_unit_zero zero2]
  exact resid_apply x0 x1 x2 x3 i j

theorem out5_at (i : Fin 3072) (j : Fin 5120) : out0_5 (F := Ideal) x0 x1 x2 x3 x4 (ix2 i j) = resid x0 x1 x2 x3 i j := by
  unfold out0_5
  rw [View.canon_unit_zero zero2]
  unfold k0_pay6
  rw [Lanes.truncf_at]
  exact pay11_at x0 x1 x2 x3 x4 i j

theorem out6_at (i : Fin 3072) (k : Fin 15744) : out0_6 (F := Ideal) x0 x1 x2 x3 x4 (ix2 i k) = code (fun k => x0 (ix2 i k)) k := by
  unfold out0_6
  rw [View.canon_unit_zero zero2, View.ld_unit_zero zero2]
  exact codes_apply x0 i k

theorem out7_at (i : Fin 3072) : out0_7 (F := Ideal) x0 x1 x2 x3 x4 (ix2 i 0) = Scale.scale (ratio fun k => x0 (ix2 i k)) := by
  unfold out0_7
  rw [View.canon_unit_zero zero2, View.ld_unit_zero zero2]
  exact scale_apply x0 i

theorem out8_at (i : Fin 3072) (j : Fin 5120) : out0_8 (F := Ideal) x0 x1 x2 x3 x4 (ix2 i j)
    = code (normed (resid x0 x1 x2 x3 i) (fun k => x4 (ix2 0 k))) j := by
  unfold out0_8
  rw [View.canon_unit_zero zero2, View.ld_unit_zero (S := S1x5120) zero2 _ x4]
  refine (ycodes_apply _ x4 i j).trans ?_
  simp only [pay11_at]

theorem out9_at (i : Fin 3072) : out0_9 (F := Ideal) x0 x1 x2 x3 x4 (ix2 i 0)
    = Scale.scale (ratio (normed (resid x0 x1 x2 x3 i) (fun k => x4 (ix2 0 k)))) := by
  unfold out0_9
  rw [View.canon_unit_zero zero2, View.ld_unit_zero (S := S1x5120) zero2 _ x4]
  refine (ys_apply _ x4 i).trans ?_
  simp only [pay11_at]

end Body

/-! ## The arrays after the run -/

variable (m : (ℓ : Loc nD τ sig) → Buf (Elt Ideal) ℓ) (ρ : Dev nD → PrngReg) (c : Dev nD)

/-- The one grid point. -/
def t₀ : Fin cfg0.N := ⟨0, by decide⟩

/-- The arrays the body reads. -/
abbrev X : Vec Ideal S3072x15744 .bf16 := V m c main_v0
abbrev W : Vec Ideal S15744x5120 .fp8e4m3 := V m c main_arg1
abbrev WS : Vec Ideal S1x5120 .f32 := V m c main_v1
abbrev R : Vec Ideal S3072x5120 .bf16 := V m c main_v2
abbrev G : Vec Ideal S1x5120 .bf16 := V m c main_v3

theorem read0 : iblk m c 0 t₀ = X m c := by
  have hz : (fun a => (win0_0.index t₀) a * main_v0.ty.shape.size a) = fun _ => 0 := funext fun a => by fin_cases a <;> decide
  unfold iblk
  exact Memref.read_access_unit_zero (Elt Ideal) main_v0 hz (fun a => by fin_cases a <;> decide) _

theorem read1 : iblk m c 1 t₀ = W m c := by
  have hz : (fun a => (win0_1.index t₀) a * main_arg1.ty.shape.size a) = fun _ => 0 := funext fun a => by fin_cases a <;> decide
  unfold iblk
  exact Memref.read_access_unit_zero (Elt Ideal) main_arg1 hz (fun a => by fin_cases a <;> decide) _

theorem read2 : iblk m c 2 t₀ = WS m c := by
  have hz : (fun a => (win0_2.index t₀) a * main_v1.ty.shape.size a) = fun _ => 0 := funext fun a => by fin_cases a <;> decide
  unfold iblk
  exact Memref.read_access_unit_zero (Elt Ideal) main_v1 hz (fun a => by fin_cases a <;> decide) _

theorem read3 : iblk m c 3 t₀ = R m c := by
  have hz : (fun a => (win0_3.index t₀) a * main_v2.ty.shape.size a) = fun _ => 0 := funext fun a => by fin_cases a <;> decide
  unfold iblk
  exact Memref.read_access_unit_zero (Elt Ideal) main_v2 hz (fun a => by fin_cases a <;> decide) _

theorem read4 : iblk m c 4 t₀ = G m c := by
  have hz : (fun a => (win0_4.index t₀) a * main_v3.ty.shape.size a) = fun _ => 0 := funext fun a => by fin_cases a <;> decide
  unfold iblk
  exact Memref.read_access_unit_zero (Elt Ideal) main_v3 hz (fun a => by fin_cases a <;> decide) _

theorem final5 : (dats m 0 c).arrAt 5 cfg0.N = out0_5 (F := Ideal) (X m c) (W m c) (WS m c) (R m c) (G m c) := by
  have ho : ((cfg0.win 5).blk t₀).view.read (Elt Ideal) ((dats m 0 c).arrAt 5 cfg0.N) = (dats m 0 c).flushed 5 t₀ := by
    rw [show cfg0.N = (t₀ : Fin cfg0.N).val + 1 from rfl, (dats m 0 c).arrAt_succ 5 t₀]
    rw [show (cfg0.win 5).flush t₀ = true from by decide, if_pos rfl]
    exact View.read_write_univ _ _
  have hz : (fun a => (win0_5.index t₀) a * main_v4_0.ty.shape.size a) = fun _ => 0 := funext fun a => by fin_cases a <;> decide
  have hr := fun f => Memref.read_access_unit_zero (Elt Ideal) main_v4_0 hz (fun a => by fin_cases a <;> decide) f
  rw [hr] at ho
  rw [ho]
  show (cfg0.win 5).cut _ ((dats m 0 c).after 5 t₀) = _
  rw [after0_5, read0, read1, read2, read3, read4]
  rfl

theorem final6 : (dats m 0 c).arrAt 6 cfg0.N = out0_6 (F := Ideal) (X m c) (W m c) (WS m c) (R m c) (G m c) := by
  have ho : ((cfg0.win 6).blk t₀).view.read (Elt Ideal) ((dats m 0 c).arrAt 6 cfg0.N) = (dats m 0 c).flushed 6 t₀ := by
    rw [show cfg0.N = (t₀ : Fin cfg0.N).val + 1 from rfl, (dats m 0 c).arrAt_succ 6 t₀]
    rw [show (cfg0.win 6).flush t₀ = true from by decide, if_pos rfl]
    exact View.read_write_univ _ _
  have hz : (fun a => (win0_6.index t₀) a * main_v4_1.ty.shape.size a) = fun _ => 0 := funext fun a => by fin_cases a <;> decide
  have hr := fun f => Memref.read_access_unit_zero (Elt Ideal) main_v4_1 hz (fun a => by fin_cases a <;> decide) f
  rw [hr] at ho
  rw [ho]
  show (cfg0.win 6).cut _ ((dats m 0 c).after 6 t₀) = _
  rw [after0_6, read0, read1, read2, read3, read4]
  rfl

theorem final7 : (dats m 0 c).arrAt 7 cfg0.N = out0_7 (F := Ideal) (X m c) (W m c) (WS m c) (R m c) (G m c) := by
  have ho : ((cfg0.win 7).blk t₀).view.read (Elt Ideal) ((dats m 0 c).arrAt 7 cfg0.N) = (dats m 0 c).flushed 7 t₀ := by
    rw [show cfg0.N = (t₀ : Fin cfg0.N).val + 1 from rfl, (dats m 0 c).arrAt_succ 7 t₀]
    rw [show (cfg0.win 7).flush t₀ = true from by decide, if_pos rfl]
    exact View.read_write_univ _ _
  have hz : (fun a => (win0_7.index t₀) a * main_v4_2.ty.shape.size a) = fun _ => 0 := funext fun a => by fin_cases a <;> decide
  have hr := fun f => Memref.read_access_unit_zero (Elt Ideal) main_v4_2 hz (fun a => by fin_cases a <;> decide) f
  rw [hr] at ho
  rw [ho]
  show (cfg0.win 7).cut _ ((dats m 0 c).after 7 t₀) = _
  rw [after0_7, read0, read1, read2, read3, read4]
  rfl

theorem final8 : (dats m 0 c).arrAt 8 cfg0.N = out0_8 (F := Ideal) (X m c) (W m c) (WS m c) (R m c) (G m c) := by
  have ho : ((cfg0.win 8).blk t₀).view.read (Elt Ideal) ((dats m 0 c).arrAt 8 cfg0.N) = (dats m 0 c).flushed 8 t₀ := by
    rw [show cfg0.N = (t₀ : Fin cfg0.N).val + 1 from rfl, (dats m 0 c).arrAt_succ 8 t₀]
    rw [show (cfg0.win 8).flush t₀ = true from by decide, if_pos rfl]
    exact View.read_write_univ _ _
  have hz : (fun a => (win0_8.index t₀) a * main_v4_3.ty.shape.size a) = fun _ => 0 := funext fun a => by fin_cases a <;> decide
  have hr := fun f => Memref.read_access_unit_zero (Elt Ideal) main_v4_3 hz (fun a => by fin_cases a <;> decide) f
  rw [hr] at ho
  rw [ho]
  show (cfg0.win 8).cut _ ((dats m 0 c).after 8 t₀) = _
  rw [after0_8, read0, read1, read2, read3, read4]
  rfl

theorem final9 : (dats m 0 c).arrAt 9 cfg0.N = out0_9 (F := Ideal) (X m c) (W m c) (WS m c) (R m c) (G m c) := by
  have ho : ((cfg0.win 9).blk t₀).view.read (Elt Ideal) ((dats m 0 c).arrAt 9 cfg0.N) = (dats m 0 c).flushed 9 t₀ := by
    rw [show cfg0.N = (t₀ : Fin cfg0.N).val + 1 from rfl, (dats m 0 c).arrAt_succ 9 t₀]
    rw [show (cfg0.win 9).flush t₀ = true from by decide, if_pos rfl]
    exact View.read_write_univ _ _
  have hz : (fun a => (win0_9.index t₀) a * main_v4_4.ty.shape.size a) = fun _ => 0 := funext fun a => by fin_cases a <;> decide
  have hr := fun f => Memref.read_access_unit_zero (Elt Ideal) main_v4_4 hz (fun a => by fin_cases a <;> decide) f
  rw [hr] at ho
  rw [ho]
  show (cfg0.win 9).cut _ ((dats m 0 c).after 9 t₀) = _
  rw [after0_9, read0, read1, read2, read3, read4]
  rfl

end Cert.RefValue

end
-- ==== Proof.RefRun.lean ====
/- The reference's run read at its results, of the arrays it is launched with. -/
module

public import proofs.«01_k».proof.Proof.RefValue

@[expose] public section

set_option maxRecDepth 16384

noncomputable section

namespace Cert.RefValue

open Idealize.ShloMosaic Idealize.SL.Sem Idealize.ShloMosaic.TcCoe Idealize.ShloMosaic.ValueIdx
open Cert.Rows Cert.RefRows Cert.ReferenceIdeal Cert.ReferenceIdeal.Gen

variable (m : (ℓ : Loc nD τ sig) → Buf (Elt Ideal) ℓ) (ρ : Dev nD → PrngReg) (c : Dev nD)

/-! ## The launched arrays, as the host reshapes them -/

abbrev lX : Vec Ideal S3072x15744 .bf16 := shapeCast S3072x15744 (m ((c : Thread nD τ).loc main_arg0) : Vec Ideal S2x1536x15744 .bf16) shapeCasts_S2x1536x15744_S3072x15744
abbrev lW : Vec Ideal S15744x5120 .fp8e4m3 := m ((c : Thread nD τ).loc main_arg1)
abbrev lWS : Vec Ideal S1x5120 .f32 := shapeCast S1x5120 (m ((c : Thread nD τ).loc main_arg2) : Vec Ideal S5120 .f32) shapeCasts_S5120_S1x5120
abbrev lR : Vec Ideal S3072x5120 .bf16 := shapeCast S3072x5120 (m ((c : Thread nD τ).loc main_arg3) : Vec Ideal S2x1536x5120 .bf16) shapeCasts_S2x1536x5120_S3072x5120
abbrev lG : Vec Ideal S1x5120 .bf16 := shapeCast S1x5120 (m ((c : Thread nD τ).loc main_arg4) : Vec Ideal S5120 .bf16) shapeCasts_S5120_S1x5120

theorem X_eq : X m c = lX m c := by
  show StableHlo.after hostOps0 (fun b => m (c, b)) (Proc.devRef .tc main_v0) = _
  simp only [hostOps0, StableHlo.after_cons, StableHlo.after_nil]
  rw [StableHlo.reshape_result_ne _ _ _ _ _ _ _ (by decide), StableHlo.reshape_result_ne _ _ _ _ _ _ _ (by decide), StableHlo.reshape_result_ne _ _ _ _ _ _ _ (by decide)]
  exact StableHlo.reshape_result main_arg0 main_v0 rfl shapeCasts_S2x1536x15744_S3072x15744 _ _ _

theorem WS_eq : WS m c = lWS m c := by
  show StableHlo.after hostOps0 (fun b => m (c, b)) (Proc.devRef .tc main_v1) = _
  simp only [hostOps0, StableHlo.after_cons, StableHlo.after_nil]
  rw [StableHlo.reshape_result_ne _ _ _ _ _ _ _ (by decide), StableHlo.reshape_result_ne _ _ _ _ _ _ _ (by decide)]
  refine (StableHlo.reshape_result main_arg2 main_v1 rfl shapeCasts_S5120_S1x5120 _ _ _).trans ?_
  rw [StableHlo.reshape_result_ne _ _ _ _ _ _ _ (by decide)]
  rfl

theorem R_eq : R m c = lR m c := by
  show StableHlo.after hostOps0 (fun b => m (c, b)) (Proc.devRef .tc main_v2) = _
  simp only [hostOps0, StableHlo.after_cons, StableHlo.after_nil]
  rw [StableHlo.reshape_result_ne _ _ _ _ _ _ _ (by decide)]
  refine (StableHlo.reshape_result main_arg3 main_v2 rfl shapeCasts_S2x1536x5120_S3072x5120 _ _ _).trans ?_
  rw [StableHlo.reshape_result_ne _ _ _ _ _ _ _ (by decide), StableHlo.reshape_result_ne _ _ _ _ _ _ _ (by decide)]
  rfl

theorem G_eq : G m c = lG m c := by
  show StableHlo.after hostOps0 (fun b => m (c, b)) (Proc.devRef .tc main_v3) = _
  simp only [hostOps0, StableHlo.after_cons, StableHlo.after_nil]
  refine (StableHlo.reshape_result main_arg4 main_v3 rfl shapeCasts_S5120_S1x5120 _ _ _).trans ?_
  rw [StableHlo.reshape_result_ne _ _ _ _ _ _ _ (by decide), StableHlo.reshape_result_ne _ _ _ _ _ _ _ (by decide), StableHlo.reshape_result_ne _ _ _ _ _ _ _ (by decide)]
  rfl

theorem W_eq : W m c = lW m c := V_main_arg1 m c

/-! ## The results -/

theorem value5 (i : Fin 3072) (j : Fin 5120) : ((dats m 0 c).arrAt 5 cfg0.N : Vec Ideal S3072x5120 .bf16) (ix2 i j)
    = resid (lX m c) (lW m c) (lWS m c) (lR m c) i j := by
  rw [final5, X_eq, W_eq, WS_eq, R_eq, G_eq]
  exact out5_at _ _ _ _ _ i j

theorem value6 (i : Fin 3072) (k : Fin 15744) : ((dats m 0 c).arrAt 6 cfg0.N : Vec Ideal S3072x15744 .fp8e4m3) (ix2 i k)
    = code (fun k => lX m c (ix2 i k)) k := by
  rw [final6, X_eq, W_eq, WS_eq, R_eq, G_eq]
  exact out6_at _ _ _ _ _ i k

theorem value7 (i : Fin 3072) : ((dats m 0 c).arrAt 7 cfg0.N : Vec Ideal S3072x1 .f32) (ix2 i 0) = Scale.scale (ratio fun k => lX m c (ix2 i k)) := by
  rw [final7, X_eq, W_eq, WS_eq, R_eq, G_eq]
  exact out7_at _ _ _ _ _ i

theorem value8 (i : Fin 3072) (j : Fin 5120) : ((dats m 0 c).arrAt 8 cfg0.N : Vec Ideal S3072x5120 .fp8e4m3) (ix2 i j)
    = code (normed (resid (lX m c) (lW m c) (lWS m c) (lR m c) i) (fun k => lG m c (ix2 0 k))) j := by
  rw [final8, X_eq, W_eq, WS_eq, R_eq, G_eq]
  exact out8_at _ _ _ _ _ i j

theorem value9 (i : Fin 3072) : ((dats m 0 c).arrAt 9 cfg0.N : Vec Ideal S3072x1 .f32) (ix2 i 0)
    = Scale.scale (ratio (normed (resid (lX m c) (lW m c) (lWS m c) (lR m c) i) (fun k => lG m c (ix2 0 k)))) := by
  rw [final9, X_eq, W_eq, WS_eq, R_eq, G_eq]
  exact out9_at _ _ _ _ _ i

/-! ## The run -/

theorem run_values : θ_run defs (onTc (τ := τ) (main (F := Ideal))) ⟨m, fun _ => 0, ρ⟩ (fun r => ∀ c : Dev nD,
      r.2.mem ((c.tc : Thread nD τ).loc main_v4_0) = (dats m 0 c).arrAt 5 cfg0.N
      ∧ r.2.mem ((c.tc : Thread nD τ).loc main_v4_1) = (dats m 0 c).arrAt 6 cfg0.N
      ∧ r.2.mem ((c.tc : Thread nD τ).loc main_v4_2) = (dats m 0 c).arrAt 7 cfg0.N
      ∧ r.2.mem ((c.tc : Thread nD τ).loc main_v4_3) = (dats m 0 c).arrAt 8 cfg0.N
      ∧ r.2.mem ((c.tc : Thread nD τ).loc main_v4_4) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, (h.1 c).1 7, (h.1 c).1 8, (h.1 c).1 9, h.2 c⟩)
    (θ_run_and (run_main m ρ) (unchanged m ρ))

end Cert.RefValue

end
-- ==== Proof.Equation.lean ====
/- The value claim: launched with the same arrays, tokens and gamma finite, the kernel and the reference end with the same five
   results. -/
module

public import proofs.«01_k».proof.Defs
public import proofs.«01_k».proof.Proof.KernelValue
public import proofs.«01_k».proof.Proof.RefRun

@[expose] public section

set_option maxRecDepth 16384

noncomputable section

namespace Cert.Equation

open Idealize.ShloMosaic Idealize.SL.Sem Idealize.ShloMosaic.TcCoe Idealize.ShloMosaic.ValueIdx Cert.Rows Cert.Bounds

/-! ## The precondition, entry by entry -/

/-- The shape relations the precondition's function states. -/
theorem preFacts : Cert.Pre_finite_inputs.Facts := ⟨by decide, by decide⟩

theorem check_at {s : Shape} (v : FVec Ideal s .bf16) (f : Fin 0 → Fin s.rank)
    (hb : Cert.Pre_finite_inputs.S_.BroadcastsInDim s f) (y : s.Idx) :
    cmpf .ole (Host.absf v) (broadcastInDim s f hb (constant (F := Ideal) Cert.Pre_finite_inputs.S_ .bf16 0x7F7F#16)) y
      = Ideal.cmp .ole (max (v y) (-(v y))) (Ideal.ofBits .bf16 0x7F7F#16) := rfl

theorem cast_finite {s t : Shape} (v : s.Idx → EReal) (h : s.ShapeCasts t) (hv : ∀ y, mag (v y) ≤ (big : EReal)) (i : t.Idx) :
    mag (shapeCast t v h i) ≤ (big : EReal) := hv _

section Pre
variable [hF : Cert.Pre_finite_inputs.Facts]
  (x0 : FVec Ideal Cert.Pre_finite_inputs.S2x1536x15744 .bf16) (x1 : FVec Ideal Cert.Pre_finite_inputs.S15744x5120 .fp8e4m3)
  (x2 : FVec Ideal Cert.Pre_finite_inputs.S5120 .f32) (x3 : FVec Ideal Cert.Pre_finite_inputs.S2x1536x5120 .bf16)
  (x4 : FVec Ideal Cert.Pre_finite_inputs.S5120 .bf16)

theorem tokens_finite (h : (Cert.Pre_finite_inputs.fn (F := Ideal) x0 x1 x2 x3 x4).1 = fun _ => 1#1) (y) : mag (x0 y) ≤ (big : EReal) :=
  mag_le_of_check ((check_at x0 _ hF.bcast_S_S2x1536x15744 y).symm.trans (congrFun h y))

theorem gamma_finite (h : (Cert.Pre_finite_inputs.fn (F := Ideal) x0 x1 x2 x3 x4).2 = fun _ => 1#1) (y) : mag (x4 y) ≤ (big : EReal) :=
  mag_le_of_check ((check_at x4 _ hF.bcast_S_S5120 y).symm.trans (congrFun h y))

end Pre

/-! ## The results -/

section Equal
variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))

include h0 in
theorem lX_eq : Cert.RefValue.lX m' c = Cert.KernelIdeal.Run.X m c := congrArg (fun v => shapeCast Cert.KernelIdeal.S3072x15744 v _) h0
include h1 in
theorem lW_eq : Cert.RefValue.lW m' c = Cert.KernelIdeal.Run.Wt m c := h1
include h2 in
theorem lWS_eq : Cert.RefValue.lWS m' c = Cert.KernelIdeal.Run.WS m c := congrArg (fun v => shapeCast Cert.KernelIdeal.S1x5120 v _) h2
include h3 in
theorem lR_eq : Cert.RefValue.lR m' c = Cert.KernelIdeal.Run.Res m c := congrArg (fun v => shapeCast Cert.KernelIdeal.S3072x5120 v _) h3
include h4 in
theorem lG_eq : Cert.RefValue.lG m' c = Cert.KernelIdeal.Run.G m c := congrArg (fun v => shapeCast Cert.KernelIdeal.S1x5120 v _) h4

variable (hX : ∀ (p : Fin 3072) (k : Fin 15744), mag (Cert.KernelIdeal.Run.X m c (ix2 p k)) ≤ (big : EReal))
  (hG : ∀ k : Fin 5120, mag (Cert.KernelIdeal.Run.G m c (ix2 0 k)) ≤ (big : EReal))

include h0 h1 h2 h3 hX in
theorem equal0 : (Cert.ReferenceIdeal.Gen.dats m' 0 c).arrAt 5 Cert.ReferenceIdeal.cfg0.N
    = Cert.KernelIdeal.Run.W4 m g c (Proc.devRef .tc Cert.KernelIdeal.main_v5_0) := by
  funext y
  obtain ⟨i, j, rfl⟩ : ∃ (i : Fin 3072) (j : Fin 5120), y = ix2 i j := ⟨y 0, y 1, eq_ix2 y⟩
  refine (Cert.RefValue.value5 m' c i j).trans ?_
  rw [lX_eq m m' c h0, lW_eq m m' c h1, lWS_eq m m' c h2, lR_eq m m' c h3]
  exact (Cert.KernelIdeal.Run.value_res m g c hX i j).symm

include h0 hX in
theorem equal1 : (Cert.ReferenceIdeal.Gen.dats m' 0 c).arrAt 6 Cert.ReferenceIdeal.cfg0.N
    = Cert.KernelIdeal.Run.W4 m g c (Proc.devRef .tc Cert.KernelIdeal.main_v1_0) := by
  funext y
  obtain ⟨i, k, rfl⟩ : ∃ (i : Fin 3072) (k : Fin 15744), y = ix2 i k := ⟨y 0, y 1, eq_ix2 y⟩
  refine (Cert.RefValue.value6 m' c i k).trans ?_
  rw [lX_eq m m' c h0]
  exact (Cert.KernelIdeal.Run.value_codes m g c hX i k).symm

include h0 hX in
theorem equal2 : (Cert.ReferenceIdeal.Gen.dats m' 0 c).arrAt 7 Cert.ReferenceIdeal.cfg0.N
    = Cert.KernelIdeal.Run.W4 m g c (Proc.devRef .tc Cert.KernelIdeal.main_v1_1) := by
  funext y
  obtain ⟨i, rfl⟩ : ∃ i : Fin 3072, y = ix2 i (0 : Fin 1) := ⟨y 0, (eq_ix2 y).trans (congrArg (ix2 (y 0)) (Subsingleton.elim (α := Fin 1) _ _))⟩
  refine (Cert.RefValue.value7 m' c i).trans ?_
  rw [lX_eq m m' c h0]
  exact (Cert.KernelIdeal.Run.value_scales m g c hX i).symm

include h0 h1 h2 h3 h4 hX hG in
theorem equal3 : (Cert.ReferenceIdeal.Gen.dats m' 0 c).arrAt 8 Cert.ReferenceIdeal.cfg0.N
    = Cert.KernelIdeal.Run.W4 m g c (Proc.devRef .tc Cert.KernelIdeal.main_v5_1) := by
  funext y
  obtain ⟨i, j, rfl⟩ : ∃ (i : Fin 3072) (j : Fin 5120), y = ix2 i j := ⟨y 0, y 1, eq_ix2 y⟩
  refine (Cert.RefValue.value8 m' c i j).trans ?_
  rw [lX_eq m m' c h0, lW_eq m m' c h1, lWS_eq m m' c h2, lR_eq m m' c h3, lG_eq m m' c h4]
  exact (Cert.KernelIdeal.Run.value_y m g c hX hG i j).symm

include h0 h1 h2 h3 h4 hX hG in
theorem equal4 : (Cert.ReferenceIdeal.Gen.dats m' 0 c).arrAt 9 Cert.ReferenceIdeal.cfg0.N
    = Cert.KernelIdeal.Run.W4 m g c (Proc.devRef .tc Cert.KernelIdeal.main_v5_2) := by
  funext y
  obtain ⟨i, rfl⟩ : ∃ i : Fin 3072, y = ix2 i (0 : Fin 1) := ⟨y 0, (eq_ix2 y).trans (congrArg (ix2 (y 0)) (Subsingleton.elim (α := Fin 1) _ _))⟩
  refine (Cert.RefValue.value9 m' c i).trans ?_
  rw [lX_eq m m' c h0, lW_eq m m' c h1, lWS_eq m m' c h2, lR_eq m m' c h3, lG_eq m m' c h4]
  exact (Cert.KernelIdeal.Run.value_ys m g c hX hG i).symm

end Equal

/-- The value claim. -/
theorem algebraic : @Cert.algebraic_KernelIdeal_ReferenceIdeal_pre_finite_inputs Cert.KernelIdeal.Gen.facts Cert.ReferenceIdeal.Gen.facts preFacts := by
  intro m g m' g' hpre hagree
  have hX (c : Dev Cert.KernelIdeal.nD) (p : Fin 3072) (k : Fin 15744) : mag (Cert.KernelIdeal.Run.X m c (ix2 p k)) ≤ (big : EReal) :=
    cast_finite _ _ (tokens_finite (hF := preFacts) _ _ _ _ _ (hpre c).1) _
  have hG (c : Dev Cert.KernelIdeal.nD) (k : Fin 5120) : mag (Cert.KernelIdeal.Run.G m c (ix2 0 k)) ≤ (big : EReal) :=
    cast_finite _ _ (gamma_finite (hF := preFacts) _ _ _ _ _ (hpre c).2) _
  refine ⟨_, _, _, _, _, Cert.KernelIdeal.Run.run_values m g, ?_⟩
  refine (θ_run Cert.ReferenceIdeal.defs _ _).mono (fun _ h c => ?_) (Cert.RefValue.run_values m' g')
  obtain ⟨a0, a1, a2, a3, a4⟩ := hagree c
  obtain ⟨r0, r1, r2, r3, r4, ra⟩ := h c
  exact ⟨r0.trans (equal0 m g m' c a0 a1 a2 a3 (hX c)), r1.trans (equal1 m g m' c a0 (hX c)), r2.trans (equal2 m g m' c a0 (hX c)),
    r3.trans (equal3 m g m' c a0 a1 a2 a3 a4 (hX c) (hG c)), r4.trans (equal4 m g m' c a0 a1 a2 a3 a4 (hX c) (hG c)), ra⟩

end Cert.Equation

end
-- ==== Proof.lean ====
/- The proof of the claims: the frames of the kernel, of its reading over the reals and of the reference, and the value claim
   (the kernel's five results are the reference's). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.RunIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Equation.preFacts,
  fun m ρ _ => Cert.Kernel.Run.frame m ρ,
  fun m ρ _ => Cert.KernelIdeal.Run.frame m ρ,
  fun m ρ _ => Cert.KernelIdeal.Run.frame m ρ,
  fun m ρ _ => Cert.ReferenceIdeal.Gen.frame m ρ,
  fun m ρ _ => Cert.ReferenceIdeal.Gen.frame m ρ,
  trivial,
  Cert.Equation.algebraic⟩

end Cert.Proof

end
